-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S1 : Shape := ⟨1, ![1]⟩
abbrev S8x128x4096 : Shape := ⟨3, ![8, 128, 4096]⟩
abbrev S7 : Shape := ⟨1, ![7]⟩
abbrev S_ : Shape := ⟨0, ![]⟩
abbrev S128x4096 : Shape := ⟨2, ![128, 4096]⟩
abbrev S1x128x4096 : Shape := ⟨3, ![1, 128, 4096]⟩
abbrev S128x1024 : Shape := ⟨2, ![128, 1024]⟩

abbrev nBuf : Space → Nat
  | .hbm => 5
  | .vmem => 8
  | .smem => 2
  | _ => 0

abbrev bufTy : (tb : Table) → Fin (tcTables nBuf tb) → BufTy
  | .hbm, ⟨0, _⟩ => ⟨S512x4096, .fp8e4m3⟩
  | .hbm, ⟨1, _⟩ => ⟨S4096x1024, .fp8e5m2⟩
  | .hbm, ⟨2, _⟩ => ⟨S1, .f32⟩
  | .hbm, ⟨3, _⟩ => ⟨S1, .f32⟩
  | .hbm, ⟨4, _⟩ => ⟨S4096x1024, .f32⟩
  | .local _ .vmem, ⟨0, _⟩ => ⟨S512x4096, .fp8e4m3⟩
  | .local _ .vmem, ⟨1, _⟩ => ⟨S4096x1024, .fp8e5m2⟩
  | .local _ .vmem, ⟨2, _⟩ => ⟨S4096x1024, .f32⟩
  | .local _ .vmem, ⟨3, _⟩ => ⟨S8x128x4096, .fp8e4m3⟩
  | .local _ .vmem, ⟨4, _⟩ => ⟨S8x128x4096, .fp8e4m3⟩
  | .local _ .vmem, ⟨5, _⟩ => ⟨S8x128x4096, .fp8e4m3⟩
  | .local _ .vmem, ⟨6, _⟩ => ⟨S8x128x4096, .fp8e4m3⟩
  | .local _ .vmem, ⟨7, _⟩ => ⟨S4096x1024, .fp8e5m2⟩
  | .local _ .smem, ⟨0, _⟩ => ⟨S1, .f32⟩
  | .local _ .smem, ⟨1, _⟩ => ⟨S1, .f32⟩
  | _, _ => ⟨S512x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 1 → Bool
  | ⟨0, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 1 61 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch12 : Ref sig .tc := ⟨.vmem, 7, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_10 : BitVec 32 := 1#32
  let v18 : BitVec 32 := Scalar.muli v11 c1_i32_10
  let v19 : BitVec 32 := Scalar.addi c0_i32 v18
  v19.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_12 : BitVec 32 := 1#32
  let v20 : BitVec 32 := Scalar.muli v16 c1_i32_12
  let v21 : BitVec 32 := Scalar.addi c0_i32_13 v20
  v21.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_34 : BitVec 32 := 1#32
  let v42 : BitVec 32 := Scalar.muli v16 c1_i32_34
  let v43 : BitVec 32 := Scalar.addi c0_i32_35 v42
  v43.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_44 : BitVec 32 := 1#32
  let v52 : BitVec 32 := Scalar.muli v16 c1_i32_44
  let v53 : BitVec 32 := Scalar.addi c0_i32_45 v52
  v53.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_54 : BitVec 32 := 1#32
  let v62 : BitVec 32 := Scalar.muli v11 c1_i32_54
  let v63 : BitVec 32 := Scalar.addi c0_i32_55 v62
  v63.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_64 : BitVec 32 := 1#32
  let v72 : BitVec 32 := Scalar.muli v11 c1_i32_64
  let v73 : BitVec 32 := Scalar.addi c0_i32_65 v72
  v73.toNat
def k0_off1 (d0 : Dev nD) (c0_i32_81 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v96 : BitVec 32 := Scalar.muli v2 c512_i32
  let v97 : BitVec 32 := Scalar.addi v96 c0_i32_81
  let v98 : Index := Scalar.indexCast v97
  let c0_82 : Index := 0#32
  ![v98.toNat, 0]
def k0_dev7 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_138 : BitVec 32 := 1#32
  let v160 : BitVec 32 := Scalar.muli v16 c1_i32_138
  let v161 : BitVec 32 := Scalar.addi c0_i32_139 v160
  v161.toNat
def k0_dev8 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_158 : BitVec 32 := 1#32
  let v178 : BitVec 32 := Scalar.muli v11 c1_i32_158
  let v179 : BitVec 32 := Scalar.addi c0_i32_159 v178
  v179.toNat
def k0_off2 (d0 : Dev nD) (c0_i32_115 : BitVec 32) (c0_i32_172 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_113 : BitVec 32 := 8#32
  let v139 : BitVec 32 := Scalar.addi v5 c8_i32_113
  let c1_i32_114 : BitVec 32 := 1#32
  let v140 : BitVec 32 := Scalar.subi v139 c1_i32_114
  let v141 : BitVec 32 := Scalar.subi v140 c0_i32_115
  let c8_i32_116 : BitVec 32 := 8#32
  let v142 : BitVec 32 := Scalar.remsi v141 c8_i32_116
  let c4_i32_117 : BitVec 32 := 4#32
  let v143 : BitVec 1 := Scalar.cmpi .slt v142 c4_i32_117
  let c11_i32_118 : BitVec 32 := 11#32
  let v144 : BitVec 32 := Scalar.subi c11_i32_118 v142
  let v145 : BitVec 32 := Scalar.select v143 v142 v144
  let c512_i32_171 : BitVec 32 := 512#32
  let v197 : BitVec 32 := Scalar.muli v145 c512_i32_171
  let v198 : BitVec 32 := Scalar.addi v197 c0_i32_172
  let v199 : Index := Scalar.indexCast v198
  let c0_173 : Index := 0#32
  ![v199.toNat, 0]
def k0_off3 (d0 : Dev nD) (c0_i32_120 : BitVec 32) (c256_i32_183 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_119 : BitVec 32 := 1#32
  let v146 : BitVec 32 := Scalar.addi v5 c1_i32_119
  let v147 : BitVec 32 := Scalar.addi v146 c0_i32_120
  let c8_i32_121 : BitVec 32 := 8#32
  let v148 : BitVec 32 := Scalar.remsi v147 c8_i32_121
  let c4_i32_122 : BitVec 32 := 4#32
  let v149 : BitVec 1 := Scalar.cmpi .slt v148 c4_i32_122
  let c11_i32_123 : BitVec 32 := 11#32
  let v150 : BitVec 32 := Scalar.subi c11_i32_123 v148
  let v151 : BitVec 32 := Scalar.select v149 v148 v150
  let c512_i32_182 : BitVec 32 := 512#32
  let v210 : BitVec 32 := Scalar.muli v151 c512_i32_182
  let v211 : BitVec 32 := Scalar.addi v210 c256_i32_183
  let v212 : Index := Scalar.indexCast v211
  let c0_184 : Index := 0#32
  ![v212.toNat, 0]
def k0_dev9 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_199 : BitVec 32 := 1#32
  let v222 : BitVec 32 := Scalar.muli v16 c1_i32_199
  let v223 : BitVec 32 := Scalar.addi c0_i32_200 v222
  v223.toNat
def k0_dev10 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_219 : BitVec 32 := 1#32
  let v240 : BitVec 32 := Scalar.muli v11 c1_i32_219
  let v241 : BitVec 32 := Scalar.addi c0_i32_220 v240
  v241.toNat
def k0_dev11 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_271 : BitVec 32 := 1#32
  let v297 : BitVec 32 := Scalar.muli v16 c1_i32_271
  let v298 : BitVec 32 := Scalar.addi c0_i32_272 v297
  v298.toNat
def k0_dev12 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_291 : BitVec 32 := 1#32
  let v315 : BitVec 32 := Scalar.muli v11 c1_i32_291
  let v316 : BitVec 32 := Scalar.addi c0_i32_292 v315
  v316.toNat
def k0_dev13 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_332 : BitVec 32 := 1#32
  let v359 : BitVec 32 := Scalar.muli v16 c1_i32_332
  let v360 : BitVec 32 := Scalar.addi c0_i32_333 v359
  v360.toNat
def k0_dev14 (d0 : Dev nD) : Nat :=
  let c0_i32_353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_352 : BitVec 32 := 1#32
  let v377 : BitVec 32 := Scalar.muli v11 c1_i32_352
  let v378 : BitVec 32 := Scalar.addi c0_i32_353 v377
  v378.toNat
def k0_dev15 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_405 : BitVec 32 := 1#32
  let v434 : BitVec 32 := Scalar.muli v16 c1_i32_405
  let v435 : BitVec 32 := Scalar.addi c0_i32_406 v434
  v435.toNat
def k0_dev16 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_425 : BitVec 32 := 1#32
  let v452 : BitVec 32 := Scalar.muli v11 c1_i32_425
  let v453 : BitVec 32 := Scalar.addi c0_i32_426 v452
  v453.toNat
def k0_dev17 (d0 : Dev nD) : Nat :=
  let c0_i32_467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_466 : BitVec 32 := 1#32
  let v496 : BitVec 32 := Scalar.muli v16 c1_i32_466
  let v497 : BitVec 32 := Scalar.addi c0_i32_467 v496
  v497.toNat
def k0_dev18 (d0 : Dev nD) : Nat :=
  let c0_i32_487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_486 : BitVec 32 := 1#32
  let v514 : BitVec 32 := Scalar.muli v11 c1_i32_486
  let v515 : BitVec 32 := Scalar.addi c0_i32_487 v514
  v515.toNat
def k0_dev19 (d0 : Dev nD) : Nat :=
  let c0_i32_539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_538 : BitVec 32 := 1#32
  let v571 : BitVec 32 := Scalar.muli v16 c1_i32_538
  let v572 : BitVec 32 := Scalar.addi c0_i32_539 v571
  v572.toNat
def k0_dev20 (d0 : Dev nD) : Nat :=
  let c0_i32_559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_558 : BitVec 32 := 1#32
  let v589 : BitVec 32 := Scalar.muli v11 c1_i32_558
  let v590 : BitVec 32 := Scalar.addi c0_i32_559 v589
  v590.toNat
def k0_dev21 (d0 : Dev nD) : Nat :=
  let c0_i32_600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_599 : BitVec 32 := 1#32
  let v633 : BitVec 32 := Scalar.muli v16 c1_i32_599
  let v634 : BitVec 32 := Scalar.addi c0_i32_600 v633
  v634.toNat
def k0_dev22 (d0 : Dev nD) : Nat :=
  let c0_i32_620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_619 : BitVec 32 := 1#32
  let v651 : BitVec 32 := Scalar.muli v11 c1_i32_619
  let v652 : BitVec 32 := Scalar.addi c0_i32_620 v651
  v652.toNat
def k0_dev23 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_671 : BitVec 32 := 1#32
  let v708 : BitVec 32 := Scalar.muli v16 c1_i32_671
  let v709 : BitVec 32 := Scalar.addi c0_i32_672 v708
  v709.toNat
def k0_dev24 (d0 : Dev nD) : Nat :=
  let c0_i32_692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_691 : BitVec 32 := 1#32
  let v726 : BitVec 32 := Scalar.muli v11 c1_i32_691
  let v727 : BitVec 32 := Scalar.addi c0_i32_692 v726
  v727.toNat
def k0_dev25 (d0 : Dev nD) : Nat :=
  let c0_i32_733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_732 : BitVec 32 := 1#32
  let v770 : BitVec 32 := Scalar.muli v16 c1_i32_732
  let v771 : BitVec 32 := Scalar.addi c0_i32_733 v770
  v771.toNat
def k0_dev26 (d0 : Dev nD) : Nat :=
  let c0_i32_753 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_752 : BitVec 32 := 1#32
  let v788 : BitVec 32 := Scalar.muli v11 c1_i32_752
  let v789 : BitVec 32 := Scalar.addi c0_i32_753 v788
  v789.toNat
def k0_dev27 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_804 : BitVec 32 := 1#32
  let v845 : BitVec 32 := Scalar.muli v16 c1_i32_804
  let v846 : BitVec 32 := Scalar.addi c0_i32_805 v845
  v846.toNat
def k0_dev28 (d0 : Dev nD) : Nat :=
  let c0_i32_825 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_824 : BitVec 32 := 1#32
  let v863 : BitVec 32 := Scalar.muli v11 c1_i32_824
  let v864 : BitVec 32 := Scalar.addi c0_i32_825 v863
  v864.toNat
def k0_dev29 (d0 : Dev nD) : Nat :=
  let c0_i32_866 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_865 : BitVec 32 := 1#32
  let v907 : BitVec 32 := Scalar.muli v16 c1_i32_865
  let v908 : BitVec 32 := Scalar.addi c0_i32_866 v907
  v908.toNat
def k0_dev30 (d0 : Dev nD) : Nat :=
  let c0_i32_886 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_885 : BitVec 32 := 1#32
  let v925 : BitVec 32 := Scalar.muli v11 c1_i32_885
  let v926 : BitVec 32 := Scalar.addi c0_i32_886 v925
  v926.toNat
abbrev stage0_0 : Fin 1 → Memref sig .tc .vmem S512x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Prog.lean ====
/-
# The kernel's body as a chain of its steps

The gather works in four streams `s` of 128 rows each: streams 0 and 1 travel one way around the ring,
streams 2 and 3 the other. A stream's buffer has eight slots: slot 0 is the device's own rows, slot `j`
the rows that have travelled `j` links. This module names the steps that the body is made of (put the own
rows into slot 0, send a slot to the neighbour's next slot, wait for an arrival, multiply a slot and store
the product, wait for a send to be done), puts them together to the whole body, and proves that the
printed body is that chain.
-/
module

public import proofs.«01_k».proof.Proof.Gen.KernelIdeal
public import proofs.«01_k».proof.Proof.Gen.KernelIdeal.Skeleton

@[expose] public section

noncomputable section

namespace Cert.KernelIdealRun

open Cert.KernelIdeal Cert.KernelIdeal.Gen
open Idealize.ShloMosaic Idealize.ShloMosaic.TcCoe Idealize.SL.Sem

variable {F : FTy → Type} [FloatOps F]

/-- A program of the kernel's body. -/
abbrev P (F : FTy → Type) : Type 1 := Prog (TpuEff nD τ sig (Elt F) Λ₀ .tc) PUnit

/-! ## The buffers and semaphores -/

/-- The staged block of `x`, the staged block of `w`, the two scales, the result block, the copy of `w`. -/
abbrev xM : Memref sig .tc .vmem S512x4096 .fp8e4m3 := Memref.whole cc0_stg0_0
abbrev wM : Memref sig .tc .vmem S4096x1024 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S4096x1024 .f32 := Memref.whole cc0_stg4_0
abbrev w8M : Memref sig .tc .vmem S4096x1024 .fp8e5m2 := Memref.whole cc0_scratch12

/-- The buffer of stream `s`. -/
abbrev bufM : Fin 4 → Memref sig .tc .vmem S8x128x4096 .fp8e4m3 :=
  fun | 0 => Memref.whole cc0_scratch0 | 1 => Memref.whole cc0_scratch1 | 2 => Memref.whole cc0_scratch2 | 3 => Memref.whole cc0_scratch3

theorem bufM_whole : ∀ s, (bufM s).IsWhole :=
  fun | 0 => Memref.isWhole_whole _ | 1 => Memref.isWhole_whole _ | 2 => Memref.isWhole_whole _ | 3 => Memref.isWhole_whole _

/-- The send and receive semaphores of stream `s`, one per hop. -/
abbrev sendA : Fin 4 → DmaSems sig S7 := fun | 0 => cc0_scratch4 | 1 => cc0_scratch5 | 2 => cc0_scratch6 | 3 => cc0_scratch7
abbrev recvA : Fin 4 → DmaSems sig S7 := fun | 0 => cc0_scratch8 | 1 => cc0_scratch9 | 2 => cc0_scratch10 | 3 => cc0_scratch11

theorem inb_slot (j : Fin 8) : ∀ a, (![j.val, 0, 0] : Fin 3 → Nat) a + S1x128x4096.size a ≤ S8x128x4096.size a := by
  intro a; fin_cases a
  · show j.val + 1 ≤ 8; omega
  · exact Nat.le_refl _
  · exact Nat.le_refl _

theorem inb_sem (h : Fin 7) : ∀ a, (![h.val] : Fin 1 → Nat) a + S1.size a ≤ S7.size a := by
  intro a; fin_cases a; show h.val + 1 ≤ 7; omega

/-- Slot `j` of a buffer as a rectangle, and as the memory the transfers name. -/
abbrev slotR (j : Fin 8) : Rect S8x128x4096 := Rect.unit (s := S8x128x4096) ![j.val, 0, 0] S1x128x4096.size (inb_slot j)
abbrev slotM (s : Fin 4) (j : Fin 8) : Memref sig .tc .vmem S128x4096 .fp8e4m3 :=
  ((bufM s).slice (slotR j) (fun _ => rfl)).squeeze S128x4096 squeezes_S1x128x4096_S128x4096

abbrev sendS (s : Fin 4) (h : Fin 7) : DmaSem sig :=
  (((sendA s).slice (Rect.unit (s := S7) ![h.val] S1.size (inb_sem h))).squeeze S_ squeezes_S1_S_).sem
abbrev recvS (s : Fin 4) (h : Fin 7) : DmaSem sig :=
  (((recvA s).slice (Rect.unit (s := S7) ![h.val] S1.size (inb_sem h))).squeeze S_ squeezes_S1_S_).sem
abbrev barS : Sem sig := (SemArray.scalar (sig.barrier 0 rfl) : Sems sig S_).sem

theorem slot_words (j : Fin 8) : (slotR j).WholeWords (EltTy.packing .fp8e4m3) := by
  fin_cases j
  · exact wordsfp8e4m3_S8x128x4096_S1x128x4096_0_0_0
  · exact wordsfp8e4m3_S8x128x4096_S1x128x4096_1_0_0
  · exact wordsfp8e4m3_S8x128x4096_S1x128x4096_2_0_0
  · exact wordsfp8e4m3_S8x128x4096_S1x128x4096_3_0_0
  · exact wordsfp8e4m3_S8x128x4096_S1x128x4096_4_0_0
  · exact wordsfp8e4m3_S8x128x4096_S1x128x4096_5_0_0
  · exact wordsfp8e4m3_S8x128x4096_S1x128x4096_6_0_0
  · exact wordsfp8e4m3_S8x128x4096_S1x128x4096_7_0_0

/-- Every slot is made of whole words, as a transfer needs. -/
theorem slot_exact (s : Fin 4) (j : Fin 8) : (slotM s j).view.WordExact :=
  ((bufM_whole s).wordExact_slice rfl _ (slot_words j)).reshape _ _

/-- The slot that hop `h` reads and the slot that it writes. -/
abbrev lo (h : Fin 7) : Fin 8 := ⟨h.val, by omega⟩
abbrev hi (h : Fin 7) : Fin 8 := ⟨h.val + 1, by omega⟩

/-- The place of a 128-row block of the result. -/
abbrev Off : Type := {o : Fin 2 → Nat // ∀ a, o a + S128x1024.size a ≤ S4096x1024.size a}
abbrev offR (o : Off) : Rect S4096x1024 := Rect.unit (s := S4096x1024) o.1 S128x1024.size o.2

/-- Rows `128 s …` of the device's block of `x`, a rectangle. -/
abbrev RowOff : Type := {o : Fin 2 → Nat // ∀ a, o a + S128x4096.size a ≤ S512x4096.size a}
abbrev rowR (o : RowOff) : Rect S512x4096 := Rect.unit (s := S512x4096) o.1 S128x4096.size o.2

/-- What a product step stores: the slot's rows times the block of `w`, times the two scales. -/
abbrev pay (v : Vec F S1x128x4096 .fp8e4m3) (w : Vec F S4096x1024 .fp8e5m2) (a b : Elt F .f32) : FVec F S128x1024 .f32 := k0_pay7 v w a b

/-- The one element of a scale and the whole of a `w` block, as rectangles. -/
abbrev oneR : Rect S1 := Rect.unit (s := S1) ![0] S1.size inb_S1_S1_0
abbrev wR : Rect S4096x1024 := Rect.unit (s := S4096x1024) ![0, 0] S4096x1024.size inb_S4096x1024_S4096x1024_0_0

/-! ## The steps -/

/-- Put the device's own rows into slot 0 of stream `s`. -/
def fill (s : Fin 4) (o : RowOff) (k : P F) : P F :=
  Prog.op (.load xM (rowR o).toLoadRect (View.loadsAt_vmem h_S128x4096)) fun v =>
  Prog.op (.load (bufM s) (slotR 0).toLoadRect (View.loadsAt_vmem h_S1x128x4096)) fun _ =>
  Prog.op (.store (bufM s) (slotR 0) (k0_pay1 v) Finset.univ
    (View.stores_vmem h_S1x128x4096 ((bufM_whole s).storeExact_slice rfl _ packedfp8e4m3_S8x128x4096_S1x128x4096_0_0_0) (fun _ => rfl)) (.inl rfl)) fun _ => k

/-- Send slot `h` of stream `s` to slot `h + 1` of the same stream on device `n`. -/
def send (s : Fin 4) (h : Fin 7) (n : Dev nD) (k : P F) : P F :=
  Prog.op (.enqueueDma (slotM s (lo h)) (.remote (Dev.tc n) (slotM s (hi h)) (.dma (sendS s h))) (.dma (recvS s h)) (slot_exact s _) (slot_exact s _)
    ⟨⟨rfl, Or.inl rfl⟩, trivial⟩) fun _ => k

/-- Wait for the rows of hop `h` of stream `s` to have arrived. -/
def arrive (s : Fin 4) (h : Fin 7) (k : P F) : P F :=
  Prog.op (.waitDma2 (recvS s h) (slotM s (lo h)) (slotM s (hi h)) (slot_exact s _) (slot_exact s _)) fun _ => k

/-- Wait for the send of hop `h` of stream `s` to be done. -/
def drain (s : Fin 4) (h : Fin 7) (k : P F) : P F :=
  Prog.op (.waitDma2 (sendS s h) (slotM s (hi h)) (slotM s (lo h)) (slot_exact s _) (slot_exact s _)) fun _ => k

/-- Multiply slot `j` of stream `s` by the `w` block and the scales, and store the product at `o`. -/
def product (s : Fin 4) (j : Fin 8) (o : Off) (k : P F) : P F :=
  Prog.op (.load (bufM s) (slotR j).toLoadRect (View.loadsAt_vmem h_S1x128x4096)) fun v =>
  Prog.op (.load w8M wR.toLoadRect (View.loadsAt_vmem h_S4096x1024)) fun w =>
  smemLoadElt sxM oneR (View.loads_smem_one rfl numel1_S1) (Shape.Idx.first (numel1_S1.symm ▸ Nat.one_pos)) fun a =>
  smemLoadElt swM oneR (View.loads_smem_one rfl numel1_S1) (Shape.Idx.first (numel1_S1.symm ▸ Nat.one_pos)) fun b =>
  Prog.op (.load oM (offR o).toLoadRect (View.loadsAt_vmem h_S128x1024)) fun _ =>
  Prog.op (.store oM (offR o) (pay v w a b) Finset.univ (View.stores_vmem_bits_univ h_S128x1024 rfl) (.inl rfl)) fun _ => k

/-- Copy the `w` block into the scratch the products read. -/
def keepW (k : P F) : P F :=
  Prog.op (.load wM wR.toLoadRect (View.loadsAt_vmem h_S4096x1024)) fun w =>
  Prog.op (.load w8M wR.toLoadRect (View.loadsAt_vmem h_S4096x1024)) fun _ =>
  Prog.op (.store w8M wR (k0_pay6 (k0_pay5 w)) Finset.univ (View.stores_vmem h_S4096x1024
    ((Memref.isWhole_whole cc0_scratch12).storeExact_slice rfl _ packedfp8e5m2_S4096x1024_S4096x1024_0_0) (fun _ => rfl)) (.inl rfl)) fun _ => k

/-- The handshake with both neighbours. -/
def greet (p n : Dev nD) (k : P F) : P F :=
  semSignalWord p barS 1#32 |>.bind fun _ => semSignalWord n barS 1#32 |>.bind fun _ => semWaitWord barS 2#32 |>.bind fun _ => k

/-- One hop that is not the last: in each stream the rows that arrive are sent on and multiplied. -/
def hop (h h' : Fin 7) (n₀ n₂ n₁ n₃ : Dev nD) (o₀ o₂ o₁ o₃ : Off) (k : P F) : P F :=
  arrive 0 h <| send 0 h' n₀ <| arrive 2 h <| send 2 h' n₂ <| product 0 (hi h) o₀ <| product 2 (hi h) o₂ <|
  arrive 1 h <| send 1 h' n₁ <| arrive 3 h <| send 3 h' n₃ <| product 1 (hi h) o₁ <| product 3 (hi h) o₃ k

/-- The last hop: the rows that arrive are multiplied only. -/
def lastHop (h : Fin 7) (o₀ o₂ o₁ o₃ : Off) (k : P F) : P F :=
  arrive 0 h <| arrive 2 h <| product 0 (hi h) o₀ <| product 2 (hi h) o₂ <|
  arrive 1 h <| arrive 3 h <| product 1 (hi h) o₁ <| product 3 (hi h) o₃ k

/-- All sends of stream `s` are waited for. -/
def drains (s : Fin 4) (k : P F) : P F :=
  drain s 0 <| drain s 1 <| drain s 2 <| drain s 3 <| drain s 4 <| drain s 5 <| drain s 6 k

/-- The opening: the handshake, slot 0 of each stream, the first sends, the copy of `w`, the own rows' products. -/
def opening (p n n₀ n₁ n₂ n₃ : Dev nD) (r₀ r₁ r₂ r₃ : RowOff) (o₀ o₁ o₂ o₃ : Off) (k : P F) : P F :=
  greet p n <| fill 0 r₀ <| fill 1 r₁ <| fill 2 r₂ <| fill 3 r₃ <|
  send 0 0 n₀ <| send 1 0 n₁ <| send 2 0 n₂ <| send 3 0 n₃ <| keepW <|
  product 0 0 o₀ <| product 1 0 o₁ <| product 2 0 o₂ <| product 3 0 o₃ k

/-! ## The devices and the places, as the body computes them -/

/-- Where the body puts the products of the own rows. -/
abbrev ownOff (c : Dev nD) (s : Fin 4) : Off := ⟨k0_off1 c (BitVec.ofNat 32 (128 * s.val)), k0_off1_inb c s⟩
/-- Where it puts the products of the rows that arrive in hop `h` in the streams `0`, `1` … -/
abbrev rightOff (c : Dev nD) (h : Fin 7) (s : Fin 2) : Off :=
  ⟨k0_off2 c (BitVec.ofNat 32 h.val) (BitVec.ofNat 32 (128 * s.val)), k0_off2_inb c h s⟩
/-- … and in the streams `2`, `3`. -/
abbrev leftOff (c : Dev nD) (h : Fin 7) (s : Fin 2) : Off :=
  ⟨k0_off3 c (BitVec.ofNat 32 h.val) (BitVec.ofNat 32 (256 + 128 * s.val)), k0_off3_inb c h s⟩

/-- The whole body on device `c`. -/
def whole (c : Dev nD) : P F :=
  opening ⟨k0_dev1 c, k0_dev1_lt c⟩ ⟨k0_dev2 c, k0_dev2_lt c⟩
    ⟨k0_dev3 c, k0_dev3_lt c⟩ ⟨k0_dev4 c, k0_dev4_lt c⟩ ⟨k0_dev5 c, k0_dev5_lt c⟩ ⟨k0_dev6 c, k0_dev6_lt c⟩
    ⟨![0, 0], inb_S512x4096_S128x4096_0_0⟩ ⟨![128, 0], inb_S512x4096_S128x4096_128_0⟩
    ⟨![256, 0], inb_S512x4096_S128x4096_256_0⟩ ⟨![384, 0], inb_S512x4096_S128x4096_384_0⟩
    (ownOff c 0) (ownOff c 1) (ownOff c 2) (ownOff c 3) <|
  hop 0 1 ⟨k0_dev7 c, k0_dev7_lt c⟩ ⟨k0_dev8 c, k0_dev8_lt c⟩ ⟨k0_dev9 c, k0_dev9_lt c⟩ ⟨k0_dev10 c, k0_dev10_lt c⟩
    (rightOff c 0 0) (leftOff c 0 0) (rightOff c 0 1) (leftOff c 0 1) <|
  hop 1 2 ⟨k0_dev11 c, k0_dev11_lt c⟩ ⟨k0_dev12 c, k0_dev12_lt c⟩ ⟨k0_dev13 c, k0_dev13_lt c⟩ ⟨k0_dev14 c, k0_dev14_lt c⟩
    (rightOff c 1 0) (leftOff c 1 0) (rightOff c 1 1) (leftOff c 1 1) <|
  hop 2 3 ⟨k0_dev15 c, k0_dev15_lt c⟩ ⟨k0_dev16 c, k0_dev16_lt c⟩ ⟨k0_dev17 c, k0_dev17_lt c⟩ ⟨k0_dev18 c, k0_dev18_lt c⟩
    (rightOff c 2 0) (leftOff c 2 0) (rightOff c 2 1) (leftOff c 2 1) <|
  hop 3 4 ⟨k0_dev19 c, k0_dev19_lt c⟩ ⟨k0_dev20 c, k0_dev20_lt c⟩ ⟨k0_dev21 c, k0_dev21_lt c⟩ ⟨k0_dev22 c, k0_dev22_lt c⟩
    (rightOff c 3 0) (leftOff c 3 0) (rightOff c 3 1) (leftOff c 3 1) <|
  hop 4 5 ⟨k0_dev23 c, k0_dev23_lt c⟩ ⟨k0_dev24 c, k0_dev24_lt c⟩ ⟨k0_dev25 c, k0_dev25_lt c⟩ ⟨k0_dev26 c, k0_dev26_lt c⟩
    (rightOff c 4 0) (leftOff c 4 0) (rightOff c 4 1) (leftOff c 4 1) <|
  hop 5 6 ⟨k0_dev27 c, k0_dev27_lt c⟩ ⟨k0_dev28 c, k0_dev28_lt c⟩ ⟨k0_dev29 c, k0_dev29_lt c⟩ ⟨k0_dev30 c, k0_dev30_lt c⟩
    (rightOff c 5 0) (leftOff c 5 0) (rightOff c 5 1) (leftOff c 5 1) <|
  lastHop 6 (rightOff c 6 0) (leftOff c 6 0) (rightOff c 6 1) (leftOff c 6 1) <|
  drains 0 <| drains 1 <| drains 2 <| drains 3 <| Prog.ret ⟨⟩

set_option maxRecDepth 65536 in
/-- The printed body asks for its device and then is the chain of steps. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7
      cc0_scratch8 cc0_scratch9 cc0_scratch10 cc0_scratch11 (Memref.whole cc0_scratch12) (Memref.isWhole_whole _)
    = Prog.op .deviceId fun c => whole c := by
  rw [cc0_body_eq_skeleton]
  rfl

end Cert.KernelIdealRun

end
-- ==== Proof.KernelIdeal.Ring.lean ====
/-
# The ring of devices and the cells of its semaphores

The eight devices stand on a ring in the order 0, 1, 2, 3, 7, 6, 5, 4. This module names the neighbours of a
device in each stream, the device whose rows a slot holds, and the kernel's own semaphore cells, and shows that
the devices and the places that the printed body computes are these.
-/
module

public import proofs.«01_k».proof.Proof.KernelIdeal.Prog
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen
open Idealize.ShloMosaic Idealize.ShloMosaic.TcCoe Idealize.SL.Sem

/-! ## The ring -/

/-- The place of device `c` on the ring, and the device at a place. -/
def place (c : Fin 8) : ℕ := if c.val < 4 then c.val else 11 - c.val
set_option backward.proofsInPublic true in
/-- The device at place `p` of the ring. -/
def at' (p : ℕ) : Dev nD := ⟨if p % 8 < 4 then p % 8 else 11 - p % 8, by show _ < 8; split <;> omega⟩

/-- The next and the previous device on the ring. -/
def nxt (c : Dev nD) : Dev nD := at' (place c + 1)
/-- The previous device on the ring. -/
def prv (c : Dev nD) : Dev nD := at' (place c + 7)

/-- The device that stream `s` sends to, and the one that it receives from. -/
def nbr (s : Fin 4) (c : Dev nD) : Dev nD := if s.val < 2 then nxt c else prv c
/-- The device that sends to `c` in stream `s`. -/
def src (s : Fin 4) (c : Dev nD) : Dev nD := if s.val < 2 then prv c else nxt c

/-- The device whose rows slot `j` of stream `s` holds on device `c`. -/
def org (s : Fin 4) (j : Fin 8) (c : Dev nD) : Dev nD :=
  if s.val < 2 then at' (place c + 7 * j.val) else at' (place c + j.val)

theorem nbr_src (s : Fin 4) (c : Dev nD) : nbr s (src s c) = c := by revert s c; decide
theorem src_nbr (s : Fin 4) (c : Dev nD) : src s (nbr s c) = c := by revert s c; decide
theorem nxt_prv (c : Dev nD) : nxt (prv c) = c := by revert c; decide
theorem prv_nxt (c : Dev nD) : prv (nxt c) = c := by revert c; decide

/-- Along the ring, forward and back. -/
def along (s : Fin 4) : Dev nD ≃ Dev nD := ⟨nbr s, src s, src_nbr s, nbr_src s⟩

/-- Slot 0 holds the device's own rows. -/
theorem org_zero (s : Fin 4) (c : Dev nD) : org s 0 c = c := by revert s c; decide
/-- What a hop writes at the neighbour is what it reads here. -/
theorem org_hop (s : Fin 4) (h : Fin 7) (c : Dev nD) : org s (hi h) (nbr s c) = org s (lo h) c := by revert s h c; decide +kernel
/-- The slots of a stream hold all devices' rows. -/
theorem org_onto (s : Fin 4) (c d : Dev nD) : ∃ j, org s j c = d := by revert s c d; decide +kernel

/-! ## The devices that the printed body computes -/

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nbr 0 c := by revert c; decide +kernel
theorem dev4_eq (c : Dev nD) : (⟨k0_dev4 c, k0_dev4_lt c⟩ : Dev nD) = nbr 1 c := by revert c; decide +kernel
theorem dev5_eq (c : Dev nD) : (⟨k0_dev5 c, k0_dev5_lt c⟩ : Dev nD) = nbr 2 c := by revert c; decide +kernel
theorem dev6_eq (c : Dev nD) : (⟨k0_dev6 c, k0_dev6_lt c⟩ : Dev nD) = nbr 3 c := by revert c; decide +kernel
theorem dev7_eq (c : Dev nD) : (⟨k0_dev7 c, k0_dev7_lt c⟩ : Dev nD) = nbr 0 c := by revert c; decide +kernel
theorem dev8_eq (c : Dev nD) : (⟨k0_dev8 c, k0_dev8_lt c⟩ : Dev nD) = nbr 2 c := by revert c; decide +kernel
theorem dev9_eq (c : Dev nD) : (⟨k0_dev9 c, k0_dev9_lt c⟩ : Dev nD) = nbr 1 c := by revert c; decide +kernel
theorem dev10_eq (c : Dev nD) : (⟨k0_dev10 c, k0_dev10_lt c⟩ : Dev nD) = nbr 3 c := by revert c; decide +kernel
theorem dev11_eq (c : Dev nD) : (⟨k0_dev11 c, k0_dev11_lt c⟩ : Dev nD) = nbr 0 c := by revert c; decide +kernel
theorem dev12_eq (c : Dev nD) : (⟨k0_dev12 c, k0_dev12_lt c⟩ : Dev nD) = nbr 2 c := by revert c; decide +kernel
theorem dev13_eq (c : Dev nD) : (⟨k0_dev13 c, k0_dev13_lt c⟩ : Dev nD) = nbr 1 c := by revert c; decide +kernel
theorem dev14_eq (c : Dev nD) : (⟨k0_dev14 c, k0_dev14_lt c⟩ : Dev nD) = nbr 3 c := by revert c; decide +kernel
theorem dev15_eq (c : Dev nD) : (⟨k0_dev15 c, k0_dev15_lt c⟩ : Dev nD) = nbr 0 c := by revert c; decide +kernel
theorem dev16_eq (c : Dev nD) : (⟨k0_dev16 c, k0_dev16_lt c⟩ : Dev nD) = nbr 2 c := by revert c; decide +kernel
theorem dev17_eq (c : Dev nD) : (⟨k0_dev17 c, k0_dev17_lt c⟩ : Dev nD) = nbr 1 c := by revert c; decide +kernel
theorem dev18_eq (c : Dev nD) : (⟨k0_dev18 c, k0_dev18_lt c⟩ : Dev nD) = nbr 3 c := by revert c; decide +kernel
theorem dev19_eq (c : Dev nD) : (⟨k0_dev19 c, k0_dev19_lt c⟩ : Dev nD) = nbr 0 c := by revert c; decide +kernel
theorem dev20_eq (c : Dev nD) : (⟨k0_dev20 c, k0_dev20_lt c⟩ : Dev nD) = nbr 2 c := by revert c; decide +kernel
theorem dev21_eq (c : Dev nD) : (⟨k0_dev21 c, k0_dev21_lt c⟩ : Dev nD) = nbr 1 c := by revert c; decide +kernel
theorem dev22_eq (c : Dev nD) : (⟨k0_dev22 c, k0_dev22_lt c⟩ : Dev nD) = nbr 3 c := by revert c; decide +kernel
theorem dev23_eq (c : Dev nD) : (⟨k0_dev23 c, k0_dev23_lt c⟩ : Dev nD) = nbr 0 c := by revert c; decide +kernel
theorem dev24_eq (c : Dev nD) : (⟨k0_dev24 c, k0_dev24_lt c⟩ : Dev nD) = nbr 2 c := by revert c; decide +kernel
theorem dev25_eq (c : Dev nD) : (⟨k0_dev25 c, k0_dev25_lt c⟩ : Dev nD) = nbr 1 c := by revert c; decide +kernel
theorem dev26_eq (c : Dev nD) : (⟨k0_dev26 c, k0_dev26_lt c⟩ : Dev nD) = nbr 3 c := by revert c; decide +kernel
theorem dev27_eq (c : Dev nD) : (⟨k0_dev27 c, k0_dev27_lt c⟩ : Dev nD) = nbr 0 c := by revert c; decide +kernel
theorem dev28_eq (c : Dev nD) : (⟨k0_dev28 c, k0_dev28_lt c⟩ : Dev nD) = nbr 2 c := by revert c; decide +kernel
theorem dev29_eq (c : Dev nD) : (⟨k0_dev29 c, k0_dev29_lt c⟩ : Dev nD) = nbr 1 c := by revert c; decide +kernel
theorem dev30_eq (c : Dev nD) : (⟨k0_dev30 c, k0_dev30_lt c⟩ : Dev nD) = nbr 3 c := by revert c; decide +kernel

/-! ## The places of the products -/

/-- Where the product of device `d`'s rows of stream `s` belongs in the result. -/
def spot (s : Fin 4) (d : Dev nD) : Off :=
  ⟨![512 * d.val + 128 * s.val, 0], fun a => by
    have hd : d.val < 8 := d.isLt
    fin_cases a
    · show 512 * d.val + 128 * s.val + 128 ≤ 4096; omega
    · exact Nat.le_refl _⟩

/-- The computed place of a device's own block is the one meant, -/
theorem ownOff_eq (c : Dev nD) (s : Fin 4) : ownOff c s = spot s (org s 0 c) :=
  Subtype.ext ((k0_off1_eq c s).trans (by rw [org_zero]; rfl))
/-- and so are those of the blocks from the one side, -/
theorem rightOff_eq (c : Dev nD) (h : Fin 7) (s : Fin 2) : rightOff c h s = spot ⟨s.val, by omega⟩ (org ⟨s.val, by omega⟩ (hi h) c) :=
  Subtype.ext ((k0_off2_eq c h s).trans (by revert c h s; decide +kernel))
/-- and from the other. -/
theorem leftOff_eq (c : Dev nD) (h : Fin 7) (s : Fin 2) : leftOff c h s = spot ⟨s.val + 2, by omega⟩ (org ⟨s.val + 2, by omega⟩ (hi h) c) :=
  Subtype.ext ((k0_off3_eq c h s).trans (by revert c h s; decide +kernel))

/-! ## The cells -/

/-- A device's own cells: the send semaphores (`false`) and the receive semaphores (`true`), by stream and hop. -/
abbrev OK : Type := Bool × Fin 4 × Fin 7
/-- All of a device's cells that the protocol uses: the barrier's and its own. -/
abbrev CK : Type := Unit ⊕ OK

abbrev osem : OK → SemLoc sig := fun k => if k.1 then .dma (recvS k.2.1 k.2.2) else .dma (sendS k.2.1 k.2.2)
abbrev csem : CK → SemLoc sig := Sum.elim (fun _ => .reg barS) osem
abbrev kcell (ck : Dev nD × CK) : GSem nD τ sig := ((ck.1 : Thread nD τ), csem ck.2)

/-- The barrier cell of a device, -/
abbrev barCell (c : Dev nD) : GSem nD τ sig := ((c : Thread nD τ), .reg barS)
/-- the send cell of a stream and hop, -/
abbrev sendCell (c : Dev nD) (s : Fin 4) (h : Fin 7) : GSem nD τ sig := ((c : Thread nD τ), .dma (sendS s h))
/-- and the receive cell. -/
abbrev recvCell (c : Dev nD) (s : Fin 4) (h : Fin 7) : GSem nD τ sig := ((c : Thread nD τ), .dma (recvS s h))

/-- Which of the device's own cells a semaphore's number names. -/
def dec (q : ℕ) : OK := (decide (33 ≤ q), ⟨((q + 23) % 28) / 7, by omega⟩, ⟨((q + 23) % 28) % 7, by omega⟩)

theorem send_val (s : Fin 4) (h : Fin 7) : (sendS s h).val = 5 + (7 * s.val + h.val) := by revert s h; decide +kernel
theorem recv_val (s : Fin 4) (h : Fin 7) : (recvS s h).val = 33 + (7 * s.val + h.val) := by revert s h; decide +kernel
theorem dec_send (s : Fin 4) (h : Fin 7) : dec (sendS s h).val = (false, s, h) := by rw [send_val]; revert s h; decide +kernel
theorem dec_recv (s : Fin 4) (h : Fin 7) : dec (recvS s h).val = (true, s, h) := by rw [recv_val]; revert s h; decide +kernel

end Cert.KernelIdealRun

end
-- ==== Proof.KernelIdeal.Sched.lean ====
/-
# What the buffers hold and the protocol of the semaphores

The contents: the blocks that are staged on each device, the rows that a slot holds, the product of those rows.
The protocol: what each signal and each transfer hands to the device that waits for it, what every device owes
when it starts, and the order of the waits.
-/
module

public import proofs.«01_k».proof.Proof.KernelIdeal.Ring

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging pipeline's part and this protocol's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, all counters at zero. -/
def s₀ : MemSt nD τ sig (Elt F) := ⟨m, fun _ => 0, ρ⟩

/-! ## Contents -/

/-- The staged blocks of device `c`: its rows of `x`, its columns of `w`, the two scales. -/
def xstg (c : Dev nD) : (cc0_stg0_0 : Ref sig .tc).ty.Contents (Elt F) :=
  (win0_0.blk (0 : Fin 1)).view.read (Elt F) ((s₀ m ρ).mem ((c : Thread nD τ).loc main_arg0))
/-- The block of `w` of device `c`, -/
def wstg (c : Dev nD) : (cc0_stg1_0 : Ref sig .tc).ty.Contents (Elt F) :=
  (win0_1.blk (0 : Fin 1)).view.read (Elt F) ((s₀ m ρ).mem ((c : Thread nD τ).loc main_arg1))
/-- its scale of `x`, -/
def sxstg (c : Dev nD) : (cc0_stg2_0 : Ref sig .tc).ty.Contents (Elt F) :=
  (win0_2.blk (0 : Fin 1)).view.read (Elt F) ((s₀ m ρ).mem ((c : Thread nD τ).loc main_arg2))
/-- and its scale of `w`. -/
def swstg (c : Dev nD) : (cc0_stg3_0 : Ref sig .tc).ty.Contents (Elt F) :=
  (win0_3.blk (0 : Fin 1)).view.read (Elt F) ((s₀ m ρ).mem ((c : Thread nD τ).loc main_arg3))

/-- Rows `128 s …` of a block of `x`. -/
def rowAt (s : Fin 4) : RowOff :=
  ⟨![128 * s.val, 0], fun a => by
    fin_cases a
    · show 128 * s.val + 128 ≤ 512; omega
    · exact Nat.le_refl _⟩

/-- What a slot holds: device `d`'s rows of stream `s`. -/
def rowsOf (s : Fin 4) (d : Dev nD) : Vec F S1x128x4096 .fp8e4m3 :=
  k0_pay1 (xM.view.readAt (Elt F) (rowR (rowAt s)).toLoadRect (xstg m ρ d))

/-- The one word of each scale. -/
def sxv (c : Dev nD) : Elt F .f32 := (sxM.access oneR).read (Elt F) (sxstg m ρ c) (Shape.Idx.first (numel1_S1.symm ▸ Nat.one_pos))
def swv (c : Dev nD) : Elt F .f32 := (swM.access oneR).read (Elt F) (swstg m ρ c) (Shape.Idx.first (numel1_S1.symm ▸ Nat.one_pos))

/-- The product, on device `c`, of device `d`'s rows of stream `s`. -/
def prodOf (c : Dev nD) (s : Fin 4) (d : Dev nD) : FVec F S128x1024 .f32 := pay (rowsOf m ρ s d) (wstg m ρ c) (sxv m ρ c) (swv m ρ c)

/-- The whole result on device `c`: row `512 d + 128 s + i` is row `i` of that product. -/
def outAt (c : Dev nD) : (cc0_stg4_0 : Ref sig .tc).ty.Contents (Elt F) := fun i =>
  prodOf m ρ c ⟨((i 0).val / 128) % 4, by omega⟩ ⟨(i 0).val / 512, by have h : (i 0).val < 4096 := (i 0).isLt; show _ < 8; omega⟩
    (Shape.pair ⟨(i 0).val % 128, Nat.mod_lt _ (by decide)⟩ (i 1))

/-! ## Slots -/

/-- A share of slot `j` of stream `s` on device `c`, holding the rows `V`. -/
def slotP (c : Dev nD) (s : Fin 4) (j : Fin 8) (q : PosShare TreeShare) (V : Vec F S1x128x4096 .fp8e4m3) : sProp 𝕄 :=
  iprop(∃ f : Buf (Elt F) ((slotM s j).view.loc (c : Thread nD τ)), ⌜((bufM s).access (slotR j)).read (Elt F) f = V⌝
    ∗ ((slotM s j).view.loc (c : Thread nD τ) ↦[(slotM s j).view.set]{q} f))
/-- The slot whole, at any contents. -/
def slotA (c : Dev nD) (s : Fin 4) (j : Fin 8) : sProp 𝕄 :=
  iprop(∃ f : Buf (Elt F) ((slotM s j).view.loc (c : Thread nD τ)), (slotM s j).view.loc (c : Thread nD τ) ↦[(slotM s j).view.set]{fullShare} f)

omit [FloatOps F] in
instance slotP_storable (c : Dev nD) (s : Fin 4) (j : Fin 8) (q : PosShare TreeShare) (V) : BI.Storable (upEmb : UEmb _ 𝕄) (slotP (F := F) c s j q V) := by
  unfold slotP; infer_instance
omit [FloatOps F] in
instance slotA_storable (c : Dev nD) (s : Fin 4) (j : Fin 8) : BI.Storable (upEmb : UEmb _ 𝕄) (slotA (F := F) c s j) := by
  unfold slotA; infer_instance

omit [FloatOps F] in
/-- A transfer of slot `j` of `s` puts into slot `j'` what slot `j` holds. -/
theorem slot_sent (s : Fin 4) (j j' : Fin 8) (fs : (slotM s j).view.ty.Contents (Elt F)) (fd : (slotM s j').view.ty.Contents (Elt F)) :
    ((bufM s).access (slotR j')).read (Elt F) ((slotM s j').view.write (Elt F) fd ((slotM s j).view.read (Elt F) fs) Finset.univ)
      = ((bufM s).access (slotR j)).read (Elt F) fs := by
  funext i
  have h (k : Fin 8) (f : (slotM s k).view.ty.Contents (Elt F)) :
      (slotM s k).view.read (Elt F) f ((Shape.reshapeEquiv (squeezes_S1x128x4096_S128x4096.numel_eq)).symm i) = ((bufM s).access (slotR k)).read (Elt F) f i := by
    show ((bufM s).access (slotR k)).read (Elt F) f (Shape.reshapeEquiv _ _) = _
    rw [Equiv.apply_symm_apply]
  rw [← h j', View.read_write_univ, h j]

/-! ## The schedule -/

/-- What device `c` gets before it sends on stream `s`: the slots 1 to 7 of the device it sends to. -/
def room (s : Fin 4) (c : Dev nD) : sProp 𝕄 := bigSep Finset.univ fun h : Fin 7 => slotA (F := F) (nbr s c) s (hi h)
/-- What the two signals of the handshake hand to device `c`: the next device's (`true`) and the previous one's (`false`). -/
def greetPay (c : Dev nD) (d : Bool) : sProp 𝕄 := if d then iprop(room 0 c ∗ room 1 c) else iprop(room 2 c ∗ room 3 c)
/-- What a send gives back when it is done: the half of the slot that it read. -/
def sendPay (c : Dev nD) (s : Fin 4) (h : Fin 7) : sProp 𝕄 := slotP c s (lo h) fullShare.left (rowsOf m ρ s (org s (lo h) c))
/-- What an arrival hands over: the slot with its rows. -/
def recvPay (c : Dev nD) (s : Fin 4) (h : Fin 7) : sProp 𝕄 := slotP c s (hi h) fullShare (rowsOf m ρ s (org s (hi h) c))

omit [FloatOps F] in
instance room_storable (s : Fin 4) (c : Dev nD) : BI.Storable (upEmb : UEmb _ 𝕄) (room (F := F) s c) := by unfold room; infer_instance
omit [FloatOps F] in
instance greetPay_storable (c : Dev nD) (d : Bool) : BI.Storable (upEmb : UEmb _ 𝕄) (greetPay (F := F) c d) := by
  unfold greetPay; split <;> infer_instance
instance sendPay_storable (c : Dev nD) (s : Fin 4) (h : Fin 7) : BI.Storable (upEmb : UEmb _ 𝕄) (sendPay m ρ c s h) := by unfold sendPay; infer_instance
instance recvPay_storable (c : Dev nD) (s : Fin 4) (h : Fin 7) : BI.Storable (upEmb : UEmb _ 𝕄) (recvPay m ρ c s h) := by unfold recvPay; infer_instance

/-- What one transfer of a slot counts on a semaphore. -/
abbrev N : ℕ := (slotM 0 0).view.dmaCredit
theorem credit_eq : ∀ (s : Fin 4) (j : Fin 8), (slotM s j).view.dmaCredit = N := by decide +kernel
theorem N_pos : 0 < N := View.dmaCredit_pos _ (by decide)

/-- The payload of a device's own cell. -/
def ownPay (c : Dev nD) (k : OK) : sProp 𝕄 := if k.1 then recvPay m ρ c k.2.1 k.2.2 else sendPay m ρ c k.2.1 k.2.2

/-- One round: the barrier cell has two duties of one unit; a send or receive cell has one, of a slot's credit. -/
def ringRd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma _ => N
  payload g _ d := match g.2 with | .reg _ => greetPay g.1.1 d | .dma q => ownPay m ρ g.1.1 (dec q.val)
  amount_pos g _ _ _ := by
    rcases g with ⟨_, _ | _⟩
    · exact Nat.one_pos
    · exact N_pos

instance ringRd_payload_storable (g : GSem nD τ sig) (r : ℕ) (d : Bool) :
    BI.Storable (upEmb : UEmb _ 𝕄) ((ringRd (F := F) m ρ).payload g r d) := by
  rcases g with ⟨t, _ | q⟩
  · show BI.Storable upEmb (greetPay t.1 d); infer_instance
  · show BI.Storable upEmb (ownPay m ρ t.1 (dec q.val)); unfold ownPay; split <;> infer_instance

section Tables
variable (c : Dev nD) (s : Fin 4) (h : Fin 7)

theorem duties_bar : (ringRd (F := F) m ρ).duties (barCell c) 0 = Finset.univ := rfl
theorem duties_own (q : DmaSem sig) : (ringRd (F := F) m ρ).duties ((c : Thread nD τ), .dma q) 0 = {false} := rfl
theorem duties_later (g : GSem nD τ sig) : ∀ r, 1 ≤ r → (ringRd (F := F) m ρ).duties g r = ∅ :=
  fun r hr => by dsimp only [ringRd]; rw [if_neg fun h => by omega]
theorem amount_bar (d : Bool) : (ringRd (F := F) m ρ).amount (barCell c) 0 d = 1 := rfl
theorem amount_own (q : DmaSem sig) (d : Bool) : (ringRd (F := F) m ρ).amount ((c : Thread nD τ), .dma q) 0 d = N := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_own (q : DmaSem sig) : (ringRd (F := F) m ρ).expect ((c : Thread nD τ), .dma q) 0 = N := by
  unfold Schedule.expect Schedule.amountOf; rw [duties_own, Finset.sum_singleton, amount_own]

theorem payload_bar (d : Bool) : (ringRd (F := F) m ρ).payload (barCell c) 0 d = greetPay c d := rfl
theorem payload_send (d : Bool) : (ringRd (F := F) m ρ).payload (sendCell c s h) 0 d = sendPay m ρ c s h := by
  show ownPay m ρ c (dec (sendS s h).val) = _
  rw [dec_send]; rfl
theorem payload_recv (d : Bool) : (ringRd (F := F) m ρ).payload (recvCell c s h) 0 d = recvPay m ρ c s h := by
  show ownPay m ρ c (dec (recvS s h).val) = _
  rw [dec_recv]; rfl

/-- What a wait gets: of the barrier, the slots of both neighbours; -/
theorem rest_bar : bigSep ((ringRd (F := F) m ρ).duties (barCell c) 0 \ ∅) (fun d => (ringRd (F := F) m ρ).payload (barCell c) 0 d)
    = iprop((room (F := F) 2 c ∗ room 3 c) ∗ room 0 c ∗ room 1 c) := by
  rw [Finset.sdiff_empty, duties_bar, bigSep_univ_eq_bigSepL [false, true] (by decide) (by decide), bigSepL_cons_cons, bigSepL_singleton,
    payload_bar, payload_bar]
  rfl
/-- of a send, the half of its slot; -/
theorem rest_send : bigSep ((ringRd (F := F) m ρ).duties (sendCell c s h) 0 \ ∅) (fun d => (ringRd (F := F) m ρ).payload (sendCell c s h) 0 d) = sendPay m ρ c s h := by
  rw [Finset.sdiff_empty, duties_own, bigSep_singleton, payload_send]
/-- of an arrival, the slot with its rows. -/
theorem rest_recv : bigSep ((ringRd (F := F) m ρ).duties (recvCell c s h) 0 \ ∅) (fun d => (ringRd (F := F) m ρ).payload (recvCell c s h) 0 d) = recvPay m ρ c s h := by
  rw [Finset.sdiff_empty, duties_own, bigSep_singleton, payload_recv]

end Tables

/-! ## What a device owes; the levels -/

/-- What is still owed to the receive cells when `a s` sends of each stream `s` have started. -/
def O (c : Dev nD) (a : Fin 4 → ℕ) : CellTallies nD τ sig Unit :=
  ∑ p : Fin 4 × Fin 7, if a p.1 ≤ p.2.val then tallyAt (recvCell (nbr p.1 c) p.1 p.2) () N else 0
/-- At the start: all of that and a unit to the barrier cell of each neighbour. -/
def O₁ (c : Dev nD) : CellTallies nD τ sig Unit := O c (fun _ => 0) + tallyAt (barCell (nxt c)) () 1
/-- What a device owes at launch. -/
def O₀ (c : Dev nD) : CellTallies nD τ sig Unit := O₁ c + tallyAt (barCell (prv c)) () 1

/-- Starting a send takes its summand off. -/
theorem O_send (c : Dev nD) (a : Fin 4 → ℕ) (s : Fin 4) (h : Fin 7) (ha : a s = h.val) :
    O c a = O c (Function.update a s (h.val + 1)) + tallyAt (recvCell (nbr s c) s h) () N := by
  unfold O
  rw [← Finset.add_sum_erase _ _ (Finset.mem_univ (s, h)), ← Finset.add_sum_erase (a := (s, h)) _ _ (Finset.mem_univ (s, h)),
    if_pos ha.le, if_neg (by rw [Function.update_self]; exact Nat.not_succ_le_self _), zero_add, add_comm]
  congr 1
  refine Finset.sum_congr rfl fun p hp => ?_
  by_cases hs : p.1 = s
  · have hh : p.2.val ≠ h.val := fun hh => (Finset.mem_erase.mp hp).1 (Prod.ext hs (Fin.ext hh))
    have : (Function.update a s (h.val + 1) p.1 ≤ p.2.val) = (a p.1 ≤ p.2.val) := by
      rw [hs, Function.update_self, ha]; exact propext ⟨fun h => by omega, fun h => by omega⟩
    simp only [this]
  · rw [Function.update_of_ne hs]

/-- When all sends have started nothing is owed. -/
theorem O_done (c : Dev nD) (a : Fin 4 → ℕ) (ha : ∀ s, 7 ≤ a s) : O c a = 0 :=
  Finset.sum_eq_zero fun p _ => if_neg (by have := ha p.1; omega)

/-- Whatever is owed after the handshake is an arrival not yet sent. -/
theorem O_pos {c : Dev nD} {a : Fin 4 → ℕ} {g : GSem nD τ sig} {u : Unit} (hp : 0 < O c a g u) :
    ∃ s, ∃ h : Fin 7, a s ≤ h.val ∧ g = recvCell (nbr s c) s h := by
  unfold O at hp
  rw [Finset.sum_apply, Finsupp.finset_sum_apply] at hp
  obtain ⟨p, -, hp⟩ := Finset.exists_ne_zero_of_sum_ne_zero hp.ne'
  by_cases ha : a p.1 ≤ p.2.val
  · rw [if_pos ha, tallyAt_apply] at hp
    by_cases hg : g = recvCell (nbr p.1 c) p.1 p.2 ∧ u = ()
    · exact ⟨p.1, p.2, ha, hg.1⟩
    · rw [if_neg hg] at hp; exact absurd rfl hp
  · rw [if_neg ha] at hp; exact absurd rfl hp

/-- Whatever is owed at launch is that or a unit at a barrier. -/
theorem O₀_pos {c : Dev nD} {g : GSem nD τ sig} {u : Unit} (hp : 0 < O₀ c g u) :
    (∃ s, ∃ h : Fin 7, g = recvCell (nbr s c) s h) ∨ g = barCell (nxt c) ∨ g = barCell (prv c) := by
  unfold O₀ O₁ at hp
  rw [Pi.add_apply, Finsupp.add_apply, Pi.add_apply, Finsupp.add_apply, tallyAt_apply, tallyAt_apply] at hp
  by_contra hn
  rw [not_or, not_or] at hn
  rw [if_neg (fun h' => hn.2.1 h'.1), if_neg (fun h' => hn.2.2 h'.1), Nat.add_zero] at hp
  obtain ⟨s, h, -, hg⟩ := O_pos hp
  exact hn.1 ⟨s, h, hg⟩

/-- Each cell has the one wait. -/
def L (g : GSem nD τ sig) : Finset Unit := if g.1.2 = .tc then {()} else ∅
/-- The order of the waits: the barrier, then the arrivals hop by hop; staging and sends wait at no time for others. -/
def lv (g : GSem nD τ sig) (_ : Unit) : ℕ := match g.2 with | .reg _ => 1 | .dma q => if 33 ≤ q.val then (dec q.val).2.2.val + 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 4) (h : Fin 7) (u : Unit) : lv (recvCell c s h) u = h.val + 2 := by
  show (if 33 ≤ (recvS s h).val then (dec (recvS s h).val).2.2.val + 2 else 0) = _
  rw [dec_recv, if_pos (by rw [recv_val]; exact Nat.le_add_right _ _)]
theorem lv_bar (c : Dev nD) (u : Unit) : lv (barCell c) u = 1 := rfl

omit [FloatOps F] in
/-- A staging cell may be waited on at the start and at the end. -/
theorem mayWait_stage (c : Dev nD) (q : DmaSem sig) (hq : q.val < 33) (D : CellTallies nD τ sig Unit) (hD : D = O₀ c ∨ D = 0) :
    (levAts L lv : sProp 𝕄) ⊢ MayWait (c : Thread nD τ) (.dma q) () D := by
  rcases hD with rfl | rfl
  · refine MayOwe.of_cut (L := L) (lev := lv) 0 (fun p hp => by rw [Finset.mem_singleton.mp hp, L_tc]; exact Finset.mem_singleton_self _)
      (fun g u hg => by rcases O₀_pos hg with ⟨s, h, rfl⟩ | rfl | rfl <;> exact Finset.mem_singleton_self _)
      (fun p hp => by rw [Finset.mem_singleton.mp hp]; exact (if_neg (by omega) : (if 33 ≤ q.val then _ else 0) = 0).le)
      (fun g u hg => by
        rcases O₀_pos hg with ⟨s, h, rfl⟩ | rfl | rfl
        · rw [lv_recv]; exact Nat.succ_pos _
        · exact Nat.one_pos
        · exact Nat.one_pos)
  · rw [MayWait_zero]; iintro -; iempintro

omit [FloatOps F] in
/-- The barrier may be waited on while nothing but arrivals is owed. -/
theorem mayWait_bar (c : Dev nD) (a : Fin 4 → ℕ) : (levAts L lv : sProp 𝕄) ⊢ MayWait (c : Thread nD τ) (.reg barS) () (O c a) :=
  MayOwe.of_cut (L := L) (lev := lv) 1 (fun p hp => by rw [Finset.mem_singleton.mp hp, L_tc]; exact Finset.mem_singleton_self _)
    (fun g u hg => by obtain ⟨s, h, -, rfl⟩ := O_pos hg; exact Finset.mem_singleton_self _)
    (fun p hp => by rw [Finset.mem_singleton.mp hp]; exact Nat.le_refl _)
    (fun g u hg => by obtain ⟨s, h, -, rfl⟩ := O_pos hg; rw [lv_recv]; omega)

omit [FloatOps F] in
/-- The arrival of hop `h` may be waited on once the sends up to hop `h` have started in every stream. -/
theorem mayWait_recv (c : Dev nD) (a : Fin 4 → ℕ) (s : Fin 4) (h : Fin 7) (ha : ∀ s', h.val < a s') :
    (levAts L lv : sProp 𝕄) ⊢ MayWait (c : Thread nD τ) (.dma (recvS s h)) () (O c a) :=
  MayOwe.of_cut (L := L) (lev := lv) (h.val + 2) (fun p hp => by rw [Finset.mem_singleton.mp hp, L_tc]; exact Finset.mem_singleton_self _)
    (fun g u hg => by obtain ⟨s, h, -, rfl⟩ := O_pos hg; exact Finset.mem_singleton_self _)
    (fun p hp => by rw [Finset.mem_singleton.mp hp]; exact (lv_recv c s h _).le)
    (fun g u hg => by obtain ⟨s', h', hle, rfl⟩ := O_pos hg; have := ha s'; rw [lv_recv]; omega)

end Cert.KernelIdealRun

end
-- ==== Proof.KernelIdeal.Steps.lean ====
/-
# One step of the gather

The state of a stream, and what each step of the body that sends or waits does to it.
-/
module

public import proofs.«01_k».proof.Proof.KernelIdeal.Sched

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What has to hold for a program to run on device `c` to the assertion `Q`. -/
abbrev Runs (c : Dev nD) (p : P F) (Q : PUnit → sProp 𝕄) : sProp 𝕄 := wp frame (wpE (defs₀ (F := F)) 𝒱₀ (c : Thread nD τ) none) Set.univ p Q

/-! ## What every device knows -/

/-- Every cell's invariant, under the names `K`, and that every cell is at its round 0. -/
def records (K : Dev nD × CK → ℕ) : sProp 𝕄 :=
  iprop((bigSep Finset.univ fun ck : Dev nD × CK => cellInv ER (ringRd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (c : Dev nD) (k : CK) : records m ρ K ⊢ cellInv ER (ringRd m ρ) (K (c, k)) (kcell (c, k)) := by
  unfold records
  exact BI.Entails.trans (BI.Entails.trans BI.sep_and and_elimL) (bigSep_elim (Finset.mem_univ (c, k)))
theorem reached_at (K : Dev nD × CK → ℕ) (c : Dev nD) (k : CK) : records m ρ K ⊢ reached ER (kcell (c, k)) 0 := by
  unfold records
  exact BI.Entails.trans (BI.Entails.trans BI.sep_and and_elimR) (bigSep_elim (Finset.mem_univ (c, k)))

/-- The records and the levels. -/
def env (K : Dev nD × CK → ℕ) : sProp 𝕄 := iprop(records m ρ K ∗ levAts L lv)
instance env_persistent (K : Dev nD × CK → ℕ) : BI.Persistent (env m ρ K) := by unfold env; infer_instance

/-! ## The state of a stream

`a` sends of the stream have started, `b` arrivals are waited for, `d` sends are waited for. -/

/-- The send of hop `h`: done, on its way, or still to come (then its tokens and the slot that it will fill are held). -/
def sendI (c : Dev nD) (s : Fin 4) (a d : ℕ) (h : Fin 7) : sProp 𝕄 :=
  if h.val < d then semVal (sendCell c s h) 0
  else if h.val < a then iprop(atPos ER (sendCell c s h) 0 ∅ 0 ∗ cred (tallyAt (sendCell c s h) () N))
  else iprop(atPos ER (sendCell c s h) 0 ∅ 0 ∗ dutyTok ER (sendCell c s h) 0 false ∗ dutyTok ER (recvCell (nbr s c) s h) 0 false ∗ slotA (nbr s c) s (hi h))
/-- The arrival of hop `h`: over, or still to come. -/
def recvI (c : Dev nD) (s : Fin 4) (b : ℕ) (h : Fin 7) : sProp 𝕄 :=
  if h.val < b then semVal (recvCell c s h) 0
  else iprop(atPos ER (recvCell c s h) 0 ∅ 0 ∗ cred (tallyAt (recvCell c s h) () N))
/-- Slot `j`: whole with its rows, the half that a send under way leaves, or with the device that sends here. -/
def slotI (c : Dev nD) (s : Fin 4) (a b d : ℕ) (j : Fin 8) : sProp 𝕄 :=
  if j.val < d then slotP c s j fullShare (rowsOf m ρ s (org s j c))
  else if j.val < a then slotP c s j fullShare.right (rowsOf m ρ s (org s j c))
  else if j.val ≤ b then slotP c s j fullShare (rowsOf m ρ s (org s j c))
  else iprop(emp)

/-- The stream. -/
def Stm (c : Dev nD) (s : Fin 4) (a b d : ℕ) : sProp 𝕄 :=
  iprop((bigSep Finset.univ fun h => sendI c s a d h) ∗ (bigSep Finset.univ fun h => recvI c s b h) ∗ bigSep Finset.univ fun j => slotI m ρ c s a b d j)

/-- What the device owes, whatever waits it has recorded. -/
def owesE (c : Dev nD) (D : CellTallies nD τ sig Unit) : sProp 𝕄 := iprop(∃ W, owes (c : Thread nD τ) D W)

variable (K : Dev nD × CK → ℕ)

/-! ## Waiting for an arrival -/

/-- Waiting for the arrival of hop `h`: the slot that arrived holds the rows meant. -/
theorem wp_arrive (c : Dev nD) (s : Fin 4) (h : Fin 7) (a : ℕ) (A : Fin 4 → ℕ) (ha : a ≤ h.val + 1) (hA : ∀ s', h.val < A s')
    (k : P F) (Q : PUnit → sProp 𝕄) :
    iprop(env m ρ K ∗ Stm m ρ c s a h.val 0 ∗ owesE c (O c A))
      ⊢ iprop(((Stm m ρ c s a (h.val + 1) 0 ∗ owesE c (O c A)) -∗ Runs c k Q) -∗ Runs c (arrive s h k) Q) := by
  unfold arrive Stm owesE env
  iintro ⟨⟨#HR, #Hlev⟩, ⟨HS, HV, HL⟩, ⟨%W, HO⟩⟩ Hk
  ihave ⟨Hv, HV⟩ := (bigSep_univ_update (Φ := fun h' => recvI (F := F) c s h.val h') (Ψ := fun h' => recvI c s (h.val + 1) h') h (fun j hj => by
    have : j.val ≠ h.val := fun e => hj (Fin.ext e)
    unfold recvI; by_cases hlt : j.val < h.val
    · rw [if_pos hlt, if_pos (by omega)]
    · rw [if_neg hlt, if_neg (by omega)])) $$ HV
  ihave ⟨-, HL⟩ := (bigSep_univ_update (Φ := fun j => slotI m ρ c s a h.val 0 j) (Ψ := fun j => slotI m ρ c s a (h.val + 1) 0 j) (hi h) (fun j hj => by
    have : j.val ≠ h.val + 1 := fun e => hj (Fin.ext e)
    unfold slotI; by_cases hlt : j.val ≤ h.val
    · rw [if_pos hlt, if_pos (show j.val ≤ h.val + 1 by omega)]
    · rw [if_neg hlt, if_neg (show ¬ j.val ≤ h.val + 1 by omega)])) $$ HL
  ihave ⟨Hat, Hc⟩ := (Entails.of_eq (show recvI (F := F) c s h.val h = iprop(atPos ER (recvCell c s h) 0 ∅ 0 ∗ cred (tallyAt (recvCell c s h) () N)) from if_neg (lt_irrefl _))) $$ Hv
  iapply (Rounds.wp_wait_rest_token 𝒱₀ ER (ringRd m ρ) (c : Thread nD τ) none (κ := K (c, .inr (true, s, h)))
      (wpE_waitDma2_eq 𝒱₀ (c : Thread nD τ) none Set.univ) (Set.mem_univ _) () (O := O c A) (W := W) (R := 0) (m := 0) (T := ∅)
      (by rw [Nat.zero_add, expect_own])) $$ [Hc HO Hat]
  · isplitr; · iapply (inv_at m ρ K c (.inr (true, s, h))); iexact HR
    isplitl [Hc]; · rw [credit_eq]; iexact Hc
    isplitl [HO]; · iexact HO
    isplitr; · iapply (mayWait_recv c A s h hA); iexact Hlev
    iexact Hat
  iintro ⟨HO, Hat, -, Hpay⟩
  ihave Hp := (Entails.of_eq ((rest_recv m ρ c s h).trans (show recvPay m ρ c s h = slotP c s (hi h) fullShare (rowsOf m ρ s (org s (hi h) c)) from rfl))) $$ Hpay
  imod (Rounds.cell_close ER (ringRd m ρ) (Set.mem_univ (K (c, .inr (true, s, h)))) (fun h => h) (R := 0 + 1) (duties_later m ρ (recvCell c s h))) $$ [Hat] with Hz
  · isplitr; · iapply (inv_at m ρ K c (.inr (true, s, h))); iexact HR
    iexact Hat
  iapply Hk
  isplitr [HO]
  · isplitl [HS]; · iexact HS
    isplitl [Hz HV]
    · iapply HV; unfold recvI; rw [if_pos (Nat.lt_succ_self _)]; iexact Hz
    iapply HL; unfold slotI
    rw [if_neg (Nat.not_lt_zero _), if_neg (show ¬ h.val + 1 < a by omega), if_pos (Nat.le_refl _)]; iexact Hp
  iexists _; iexact HO

/-! ## Starting a send -/

/-- A slot's two halves. -/
theorem slot_halves (c : Dev nD) (s : Fin 4) (j : Fin 8) (V) :
    slotP (F := F) c s j fullShare V ⊢ iprop((∃ f, ⌜((bufM s).access (slotR j)).read (Elt F) f = V⌝
      ∗ ((slotM s j).view.loc (c : Thread nD τ) ↦[(slotM s j).view.set]{fullShare.left} f)) ∗ slotP c s j fullShare.right V) := by
  unfold slotP
  iintro ⟨%f, %hf, H⟩
  ihave ⟨Ha, Hb⟩ := (pointsTo_share (PosShare.mem_left_op_right fullShare)).1 $$ H
  isplitl [Ha]
  · iexists f; isplitr; · ipureintro; exact hf
    iexact Ha
  iexists f; isplitr; · ipureintro; exact hf
  iexact Hb

/-- … and together again. -/
theorem slot_whole (c : Dev nD) (s : Fin 4) (j : Fin 8) (V) :
    iprop(slotP (F := F) c s j fullShare.left V ∗ slotP c s j fullShare.right V) ⊢ slotP c s j fullShare V := by
  unfold slotP
  iintro ⟨⟨%f, %hf, Ha⟩, ⟨%g, %hg, Hb⟩⟩
  ihave %hag := pointsTo_agree $$ [Ha Hb]
  · isplitl [Ha]; · iexact Ha
    iexact Hb
  iexists f
  isplitr; · ipureintro; exact hf
  iapply (pointsTo_share (PosShare.mem_left_op_right fullShare)).2
  isplitl [Ha]; · iexact Ha
  rw [pointsTo_congr (f := f) (g := g) fun i hi => (hag i (Finset.mem_inter.mpr ⟨hi, hi⟩)).1]; iexact Hb

/-- The transfer itself, addressed to the stream's neighbour. -/
theorem wp_transfer (c n : Dev nD) (s : Fin 4) (hn : n = nbr s c) (h : Fin 7) (fs) (fd) (A : Fin 4 → ℕ) (hA : A s = h.val) (W : Waits sig Unit)
    (hfs : ((bufM s).access (slotR (lo h))).read (Elt F) fs = rowsOf m ρ s (org s (lo h) c)) (k : P F) (Q : PUnit → sProp 𝕄) :
    iprop(cellInv ER (ringRd m ρ) (K (c, .inr (false, s, h))) (sendCell c s h)
        ∗ cellInv ER (ringRd m ρ) (K (nbr s c, .inr (true, s, h))) (recvCell (nbr s c) s h)
        ∗ ((slotM s (lo h)).view.loc (c : Thread nD τ) ↦[(slotM s (lo h)).view.set]{fullShare.left} fs)
        ∗ ((slotM s (hi h)).view.loc (nbr s c : Thread nD τ) ↦[(slotM s (hi h)).view.set]{fullShare} fd)
        ∗ owes (c : Thread nD τ) (O c A) W
        ∗ dutyTok ER (sendCell c s h) 0 false ∗ reached ER (sendCell c s h) 0
        ∗ dutyTok ER (recvCell (nbr s c) s h) 0 false ∗ reached ER (recvCell (nbr s c) s h) 0)
      ⊢ iprop(((cred (tallyAt (sendCell c s h) () N) ∗ owes (c : Thread nD τ) (O c (Function.update A s (h.val + 1))) W) -∗ Runs c k Q) -∗ Runs c (send s h n k) Q) := by
  subst hn
  unfold send
  exact Rounds.wp_send_pointsTo 𝒱₀ ER (ringRd m ρ) (c : Thread nD τ) none (κ₁ := K (c, .inr (false, s, h))) (κ₂ := K (nbr s c, .inr (true, s, h)))
    (c' := (nbr s c : Thread nD τ)) (src := slotM s (lo h)) (dst := slotM s (hi h)) (sS := .dma (sendS s h)) (sem := .dma (recvS s h))
    (r₁ := 0) (r₂ := 0) (d₁ := false) (d₂ := false) (fs := fs) (fd := fd) (k := fun _ => k) (Q := Q) (defs := defs₀ (F := F))
    (by rw [duties_own]; exact Finset.mem_singleton_self _) (by rw [duties_own]; exact Finset.mem_singleton_self _)
    () () N (credit_eq s (hi h)) (amount_own m ρ c _ false) (amount_own m ρ (nbr s c) _ false) (O c (Function.update A s (h.val + 1))) (O_send c A s h hA) (W := W)
    (by
      rw [payload_send]; unfold sendPay slotP
      iintro H; iexists fs; isplitr; · ipureintro; exact hfs
      iexact H)
    (by
      rw [payload_recv]; unfold recvPay slotP
      iintro H; iexists _; isplitr; swap; · iexact H
      ipureintro; rw [slot_sent, hfs, org_hop])

/-- Starting the send of hop `h`: half of the slot's share and the neighbour's free slot go to the copy. -/
theorem wp_send (c n : Dev nD) (s : Fin 4) (hn : n = nbr s c) (h : Fin 7) (A : Fin 4 → ℕ) (hA : A s = h.val) (k : P F) (Q : PUnit → sProp 𝕄) :
    iprop(env m ρ K ∗ Stm m ρ c s h.val h.val 0 ∗ owesE c (O c A))
      ⊢ iprop(((Stm m ρ c s (h.val + 1) h.val 0 ∗ owesE c (O c (Function.update A s (h.val + 1)))) -∗ Runs c k Q) -∗ Runs c (send s h n k) Q) := by
  unfold Stm owesE env
  iintro ⟨⟨#HR, #Hlev⟩, ⟨HS, HV, HL⟩, ⟨%W, HO⟩⟩ Hk
  ihave ⟨Hs, HS⟩ := (bigSep_univ_update (Φ := fun h' => sendI (F := F) c s h.val 0 h') (Ψ := fun h' => sendI c s (h.val + 1) 0 h') h (fun j hj => by
    have : j.val ≠ h.val := fun e => hj (Fin.ext e)
    unfold sendI; rw [if_neg (Nat.not_lt_zero _), if_neg (Nat.not_lt_zero _)]; by_cases hlt : j.val < h.val
    · rw [if_pos hlt, if_pos (by omega)]
    · rw [if_neg hlt, if_neg (by omega)])) $$ HS
  ihave ⟨Hl, HL⟩ := (bigSep_univ_update (Φ := fun j => slotI m ρ c s h.val h.val 0 j) (Ψ := fun j => slotI m ρ c s (h.val + 1) h.val 0 j) (lo h) (fun j hj => by
    have : j.val ≠ h.val := fun e => hj (Fin.ext e)
    unfold slotI; rw [if_neg (Nat.not_lt_zero _), if_neg (Nat.not_lt_zero _)]; by_cases hlt : j.val < h.val
    · rw [if_pos hlt, if_pos (by omega)]
    · rw [if_neg hlt, if_neg (show ¬ j.val < h.val + 1 by omega)])) $$ HL
  ihave ⟨Hat, Ht₁, Ht₂, Hd⟩ := (Entails.of_eq (show sendI (F := F) c s h.val 0 h = iprop(atPos ER (sendCell c s h) 0 ∅ 0
      ∗ dutyTok ER (sendCell c s h) 0 false ∗ dutyTok ER (recvCell (nbr s c) s h) 0 false ∗ slotA (nbr s c) s (hi h)) by
    unfold sendI; rw [if_neg (Nat.not_lt_zero _), if_neg (lt_irrefl _)])) $$ Hs
  ihave Hl := (Entails.of_eq (show slotI m ρ c s h.val h.val 0 (lo h) = slotP c s (lo h) fullShare (rowsOf m ρ s (org s (lo h) c)) by
    unfold slotI; rw [if_neg (Nat.not_lt_zero _), if_neg (lt_irrefl _), if_pos (Nat.le_refl _)])) $$ Hl
  unfold slotA
  icases Hd with ⟨%fd, Hd⟩
  ihave ⟨⟨%fs, %hfs, Hx⟩, Hr⟩ := (slot_halves c s (lo h) _) $$ Hl
  iapply (wp_transfer m ρ K c n s hn h fs fd A hA W hfs k Q) $$ [Hx Hd HO Ht₁ Ht₂]
  · isplitr; · iapply (inv_at m ρ K c (.inr (false, s, h))); iexact HR
    isplitr; · iapply (inv_at m ρ K (nbr s c) (.inr (true, s, h))); iexact HR
    isplitl [Hx]; · iexact Hx
    isplitl [Hd]; · iexact Hd
    isplitl [HO]; · iexact HO
    isplitl [Ht₁]; · iexact Ht₁
    isplitr; · iapply (reached_at m ρ K c (.inr (false, s, h))); iexact HR
    isplitl [Ht₂]; · iexact Ht₂
    iapply (reached_at m ρ K (nbr s c) (.inr (true, s, h))); iexact HR
  iintro ⟨Hc, HO⟩
  iapply Hk
  isplitr [HO]
  · isplitl [HS Hat Hc]
    · iapply HS; unfold sendI; rw [if_neg (Nat.not_lt_zero _), if_pos (Nat.lt_succ_self _)]
      isplitl [Hat]; · iexact Hat
      iexact Hc
    isplitl [HV]; · iexact HV
    iapply HL; unfold slotI; rw [if_neg (Nat.not_lt_zero _), if_pos (Nat.lt_succ_self _)]; iexact Hr
  iexists _; iexact HO

/-! ## Waiting for a send to be done -/

/-- Waiting for the send of hop `h`: the half that the copy had comes back. -/
theorem wp_drain (c : Dev nD) (s : Fin 4) (h : Fin 7) (k : P F) (Q : PUnit → sProp 𝕄) :
    iprop(env m ρ K ∗ Stm m ρ c s 7 7 h.val ∗ owesE c 0)
      ⊢ iprop(((Stm m ρ c s 7 7 (h.val + 1) ∗ owesE c 0) -∗ Runs c k Q) -∗ Runs c (drain s h k) Q) := by
  unfold drain Stm owesE env
  iintro ⟨⟨#HR, #Hlev⟩, ⟨HS, HV, HL⟩, ⟨%W, HO⟩⟩ Hk
  ihave ⟨Hs, HS⟩ := (bigSep_univ_update (Φ := fun h' => sendI (F := F) c s 7 h.val h') (Ψ := fun h' => sendI c s 7 (h.val + 1) h') h (fun j hj => by
    have : j.val ≠ h.val := fun e => hj (Fin.ext e)
    unfold sendI; by_cases hlt : j.val < h.val
    · rw [if_pos hlt, if_pos (by omega)]
    · rw [if_neg hlt, if_neg (show ¬ j.val < h.val + 1 by omega)])) $$ HS
  ihave ⟨Hl, HL⟩ := (bigSep_univ_update (Φ := fun j => slotI m ρ c s 7 7 h.val j) (Ψ := fun j => slotI m ρ c s 7 7 (h.val + 1) j) (lo h) (fun j hj => by
    have : j.val ≠ h.val := fun e => hj (Fin.ext e)
    unfold slotI; by_cases hlt : j.val < h.val
    · rw [if_pos hlt, if_pos (by omega)]
    · rw [if_neg hlt, if_neg (show ¬ j.val < h.val + 1 by omega)])) $$ HL
  ihave ⟨Hat, Hc⟩ := (Entails.of_eq (show sendI (F := F) c s 7 h.val h = iprop(atPos ER (sendCell c s h) 0 ∅ 0 ∗ cred (tallyAt (sendCell c s h) () N)) by
    unfold sendI; rw [if_neg (lt_irrefl _), if_pos h.isLt])) $$ Hs
  ihave Hl := (Entails.of_eq (show slotI m ρ c s 7 7 h.val (lo h) = slotP c s (lo h) fullShare.right (rowsOf m ρ s (org s (lo h) c)) by
    unfold slotI; rw [if_neg (lt_irrefl _), if_pos h.isLt])) $$ Hl
  iapply (Rounds.wp_wait_rest_token 𝒱₀ ER (ringRd m ρ) (c : Thread nD τ) none (κ := K (c, .inr (false, s, h)))
      (wpE_waitDma2_eq 𝒱₀ (c : Thread nD τ) none Set.univ) (Set.mem_univ _) () (O := 0) (W := W) (R := 0) (m := 0) (T := ∅)
      (by rw [Nat.zero_add, expect_own, credit_eq])) $$ [Hc HO Hat]
  · isplitr; · iapply (inv_at m ρ K c (.inr (false, s, h))); iexact HR
    isplitl [Hc]; · rw [credit_eq]; iexact Hc
    isplitl [HO]; · iexact HO
    isplitr; · rw [MayWait_zero]; iempintro
    iexact Hat
  iintro ⟨HO, Hat, -, Hpay⟩
  ihave Hp := (Entails.of_eq ((rest_send m ρ c s h).trans (show sendPay m ρ c s h = slotP c s (lo h) fullShare.left (rowsOf m ρ s (org s (lo h) c)) from rfl))) $$ Hpay
  imod (Rounds.cell_close ER (ringRd m ρ) (Set.mem_univ (K (c, .inr (false, s, h)))) (fun h => h) (R := 0 + 1) (duties_later m ρ (sendCell c s h))) $$ [Hat] with Hz
  · isplitr; · iapply (inv_at m ρ K c (.inr (false, s, h))); iexact HR
    iexact Hat
  iapply Hk
  isplitr [HO]
  · isplitl [HS Hz]
    · iapply HS; unfold sendI; rw [if_pos (Nat.lt_succ_self _)]; iexact Hz
    isplitl [HV]; · iexact HV
    iapply HL; unfold slotI; rw [if_pos (Nat.lt_succ_self _)]
    iapply (slot_whole c s (lo h) _)
    isplitl [Hp]; · iexact Hp
    iexact Hl
  iexists _; iexact HO

/-! ## The handshake -/

/-- Both signals hand over slots 1 to 7 of the device's own streams; the wait returns those of the neighbours. -/
theorem wp_greet (c p n : Dev nD) (hp : p = prv c) (hn : n = nxt c) (k : P F) (Q : PUnit → sProp 𝕄) :
    iprop(env m ρ K ∗ ((room (F := F) 0 (prv c) ∗ room 1 (prv c)) ∗ room 2 (nxt c) ∗ room 3 (nxt c))
        ∗ dutyTok ER (barCell (prv c)) 0 true ∗ dutyTok ER (barCell (nxt c)) 0 false ∗ atPos ER (barCell c) 0 ∅ 0
        ∗ cred (tallyAt (barCell c) () 2) ∗ owesE c (O₀ c))
      ⊢ iprop((((room (F := F) 0 c ∗ room 1 c ∗ room 2 c ∗ room 3 c) ∗ semVal (barCell c) 0 ∗ owesE c (O c fun _ => 0)) -∗ Runs c k Q) -∗ Runs c (greet p n k) Q) := by
  subst hp hn
  unfold greet owesE env
  simp only [semSignalWord, semWaitWord, Prog.lift, Prog.bind_op, Prog.bind_ret, Prog.pure_eq_ret]
  iintro ⟨⟨#HR, #Hlev⟩, ⟨Hp, Hn⟩, Ht₁, Ht₂, Hat, Hc, ⟨%W, HO⟩⟩ Hk
  iapply (Rounds.wp_signal 𝒱₀ ER (ringRd m ρ) (c : Thread nD τ) none (dst := (prv c : Thread nD τ)) (κ := K (prv c, .inl ()))
      (d := true) (by rw [duties_bar]; exact Finset.mem_univ _) ((amount_bar m ρ (prv c) true).trans (by decide)) () (O₁ c) rfl) $$ [HO Ht₁ Hp]
  · isplitr; · iapply (inv_at m ρ K (prv c) (.inl ())); iexact HR
    isplitl [HO]; · iexact HO
    isplitl [Ht₁]; · iexact Ht₁
    isplitl [Hp]; · rw [payload_bar]; unfold greetPay; rw [if_pos rfl]; iexact Hp
    iapply (reached_at m ρ K (prv c) (.inl ())); iexact HR
  iintro HO
  iapply (Rounds.wp_signal 𝒱₀ ER (ringRd m ρ) (c : Thread nD τ) none (dst := (nxt c : Thread nD τ)) (κ := K (nxt c, .inl ()))
      (d := false) (by rw [duties_bar]; exact Finset.mem_univ _) ((amount_bar m ρ (nxt c) false).trans (by decide)) () (O c fun _ => 0) rfl) $$ [HO Ht₂ Hn]
  · isplitr; · iapply (inv_at m ρ K (nxt c) (.inl ())); iexact HR
    isplitl [HO]; · iexact HO
    isplitl [Ht₂]; · iexact Ht₂
    isplitl [Hn]; · rw [payload_bar]; unfold greetPay; rw [if_neg Bool.false_ne_true]; iexact Hn
    iapply (reached_at m ρ K (nxt c) (.inl ())); iexact HR
  iintro HO
  iapply (Rounds.wp_wait_rest_token 𝒱₀ ER (ringRd m ρ) (c : Thread nD τ) none (κ := K (c, .inl ()))
      (wpE_semWait_eq 𝒱₀ (c : Thread nD τ) none Set.univ) (Set.mem_univ _) () (O := O c fun _ => 0) (W := W) (R := 0) (m := 0) (T := ∅)
      (by rw [expect_bar]; decide)) $$ [Hc HO Hat]
  · isplitr; · iapply (inv_at m ρ K c (.inl ())); iexact HR
    isplitl [Hc]; · iexact Hc
    isplitl [HO]; · iexact HO
    isplitr; · iapply (mayWait_bar c); iexact Hlev
    iexact Hat
  iintro ⟨HO, Hat, -, Hpay⟩
  ihave ⟨⟨H₂, H₃⟩, H₀, H₁⟩ := (Entails.of_eq (rest_bar m ρ c)) $$ Hpay
  imod (Rounds.cell_close ER (ringRd m ρ) (Set.mem_univ (K (c, .inl ()))) (fun h => h) (R := 0 + 1) (duties_later m ρ (barCell c))) $$ [Hat] with Hz
  · isplitr; · iapply (inv_at m ρ K c (.inl ())); iexact HR
    iexact Hat
  iapply Hk
  isplitl [H₀ H₁ H₂ H₃]
  · isplitl [H₀]; · iexact H₀
    isplitl [H₁]; · iexact H₁
    isplitl [H₂]; · iexact H₂
    iexact H₃
  isplitl [Hz]; · iexact Hz
  iexists _; iexact HO

end Cert.KernelIdealRun

end
-- ==== Proof.KernelIdeal.Work.lean ====
/-
# The steps that compute

Filling slot 0, copying the `w` block, and one product; what the result block holds after some of the products.
-/
module

public import proofs.«01_k».proof.Proof.KernelIdeal.Steps
public import Idealize.ShloMosaic.Lib.ViewIndex

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A whole buffer of device `c` with the contents `f`. -/
abbrev held (c : Dev nD) (b : Ref sig .tc) (f : b.ty.Contents (Elt F)) : sProp 𝕄 := iprop((c : Thread nD τ).loc b ↦{fullShare} f)

/-! ## Filling slot 0 -/

/-- Filling slot 0 of a stream with the device's own rows. -/
theorem wp_fill (c : Dev nD) (s : Fin 4) (o : RowOff) (ho : o = rowAt s) (k : P F) (Q : PUnit → sProp 𝕄) :
    iprop(slotA (F := F) c s 0 ∗ held c cc0_stg0_0 (xstg m ρ c))
      ⊢ iprop(((slotP c s 0 fullShare (rowsOf m ρ s (org s 0 c)) ∗ held c cc0_stg0_0 (xstg m ρ c)) -∗ Runs c k Q) -∗ Runs c (fill s o k) Q) := by
  subst ho
  unfold fill slotA
  iintro ⟨⟨%f, Hs⟩, Hx⟩ Hk
  iapply (wp_load 𝒱₀ (c : Thread nD τ) none Set.univ (m := xM) (S := Finset.univ) (Finset.subset_univ _)) $$ Hx
  iintro Hx
  iapply (wp_load_rect 𝒱₀ (c : Thread nD τ) none Set.univ (m := bufM s) (r := slotR 0) (S := (slotM s 0).view.set) (f := f)
    (by rw [View.set_reshape])) $$ Hs
  iintro Hs
  iapply (wp_store 𝒱₀ (c : Thread nD τ) none Set.univ (m := bufM s) (r := slotR 0) (S := (slotM s 0).view.set) (f := f)
    (by rw [View.setOn_univ, View.set_reshape])) $$ Hs
  iintro Hs
  iapply Hk
  isplitl [Hs]
  · unfold slotP
    iexists _; isplitr; swap; · iexact Hs
    ipureintro; rw [View.read_write_univ, org_zero]; rfl
  iexact Hx

/-! ## Copying the `w` block -/

theorem hz : (![0, 0] : Fin 2 → Nat) = fun _ => 0 := funext fun a => by fin_cases a <;> rfl

/-- The whole copy of `w` is overwritten, -/
theorem write_w (f w : (cc0_scratch12 : Ref sig .tc).ty.Contents (Elt F)) :
    ((w8M : Memref sig .tc .vmem S4096x1024 .fp8e5m2).access wR : View sig .tc _ _ _).write (Elt F) f w Finset.univ = w :=
  Memref.write_access_unit_zero_univ (Elt F) cc0_scratch12 hz _ f w
/-- the `w` block is read whole, -/
theorem read_w (f : (cc0_stg1_0 : Ref sig .tc).ty.Contents (Elt F)) : (wM : Memref sig .tc .vmem S4096x1024 .fp8e5m2).view.readAt (Elt F) wR.toLoadRect f = f :=
  Memref.readAt_unit_zero (Elt F) cc0_stg1_0 hz _ f
/-- and so is its copy. -/
theorem read_w8 (f : (cc0_scratch12 : Ref sig .tc).ty.Contents (Elt F)) : (w8M : Memref sig .tc .vmem S4096x1024 .fp8e5m2).view.readAt (Elt F) wR.toLoadRect f = f :=
  Memref.readAt_unit_zero (Elt F) cc0_scratch12 hz _ f

/-- The scratch then holds the `w` block. -/
theorem wp_keepW (c : Dev nD) (f₀ : (cc0_scratch12 : Ref sig .tc).ty.Contents (Elt F)) (k : P F) (Q : PUnit → sProp 𝕄) :
    iprop(held c cc0_scratch12 f₀ ∗ held c cc0_stg1_0 (wstg m ρ c))
      ⊢ iprop(((held c cc0_scratch12 (wstg m ρ c) ∗ held c cc0_stg1_0 (wstg m ρ c)) -∗ Runs c k Q) -∗ Runs c (keepW k) Q) := by
  unfold keepW
  iintro ⟨Hs, Hw⟩ Hk
  iapply (wp_load 𝒱₀ (c : Thread nD τ) none Set.univ (m := wM) (S := Finset.univ) (Finset.subset_univ _)) $$ Hw
  iintro Hw
  iapply (wp_load 𝒱₀ (c : Thread nD τ) none Set.univ (m := w8M) (S := Finset.univ) (Finset.subset_univ _)) $$ Hs
  iintro Hs
  iapply (wp_store 𝒱₀ (c : Thread nD τ) none Set.univ (m := w8M) (r := wR) (S := Finset.univ) (Finset.subset_univ _)) $$ Hs
  iintro Hs
  iapply Hk
  isplitl [Hs]
  · rw [show (w8M.access wR).write (Elt F) f₀ (k0_pay6 (k0_pay5 (wM.view.readAt (Elt F) wR.toLoadRect (wstg m ρ c)))) Finset.univ = wstg m ρ c from by
      rw [write_w, read_w]
      unfold k0_pay6 k0_pay5
      funext i
      simp only [shapeCast, Shape.reshapeEquiv_self]]
    iexact Hs
  iexact Hw

/-! ## One product -/

/-- The result block after the products of the first `e s` slots of each stream `s`. -/
def outI (c : Dev nD) (e : Fin 4 → ℕ) : sProp 𝕄 :=
  iprop(∃ f, ⌜∀ (s : Fin 4) (j : Fin 8), j.val < e s → (oM.access (offR (spot s (org s j c)))).read (Elt F) f = prodOf m ρ c s (org s j c)⌝ ∗ held c cc0_stg4_0 f)

/-- Different spots are different rows. -/
theorem spot_disjoint (s s' : Fin 4) (d d' : Dev nD) (h : ¬ (s = s' ∧ d = d')) :
    Disjoint (oM.access (offR (spot s d))).set (oM.access (offR (spot s' d'))).set := by
  refine View.disjoint_slice (Rect.unit_disjoint (0 : Fin 2) ?_)
  have hs : s.val = s'.val → d.val ≠ d'.val := fun e e' => h ⟨Fin.ext e, Fin.ext e'⟩
  show 512 * d.val + 128 * s.val + 128 ≤ 512 * d'.val + 128 * s'.val ∨ 512 * d'.val + 128 * s'.val + 128 ≤ 512 * d.val + 128 * s.val
  omega

/-- The slots of a stream hold rows of different devices. -/
theorem org_inj (s : Fin 4) (j j' : Fin 8) (c : Dev nD) (h : org s j c = org s j' c) : j = j' := by revert s j j' c; decide +kernel

/-- Any share of the slot's rows will do for a product. -/
theorem wp_product (c : Dev nD) (s : Fin 4) (j : Fin 8) (o : Off) (ho : o = spot s (org s j c)) (q : PosShare TreeShare) (e : Fin 4 → ℕ) (he : e s = j.val)
    (k : P F) (Q : PUnit → sProp 𝕄) :
    iprop(slotP c s j q (rowsOf m ρ s (org s j c)) ∗ held c cc0_scratch12 (wstg m ρ c) ∗ held c cc0_stg2_0 (sxstg m ρ c) ∗ held c cc0_stg3_0 (swstg m ρ c) ∗ outI m ρ c e)
      ⊢ iprop(((slotP c s j q (rowsOf m ρ s (org s j c)) ∗ held c cc0_scratch12 (wstg m ρ c) ∗ held c cc0_stg2_0 (sxstg m ρ c) ∗ held c cc0_stg3_0 (swstg m ρ c)
          ∗ outI m ρ c (Function.update e s (j.val + 1))) -∗ Runs c k Q) -∗ Runs c (product s j o k) Q) := by
  subst ho
  unfold product slotP outI
  iintro ⟨⟨%f, %hf, Hs⟩, Hw, Ha, Hb, ⟨%g, %hg, Ho⟩⟩ Hk
  iapply (wp_load_rect 𝒱₀ (c : Thread nD τ) none Set.univ (m := bufM s) (r := slotR j) (S := (slotM s j).view.set) (f := f)
    (by rw [View.set_reshape])) $$ Hs
  iintro Hs
  iapply (wp_load 𝒱₀ (c : Thread nD τ) none Set.univ (m := w8M) (S := Finset.univ) (Finset.subset_univ _)) $$ Hw
  iintro Hw
  iapply (wp_smemLoadElt 𝒱₀ (c : Thread nD τ) none Set.univ (m := sxM) (r := oneR) (f := sxstg m ρ c) (S := Finset.univ) (Finset.subset_univ _)) $$ Ha
  iintro Ha
  iapply (wp_smemLoadElt 𝒱₀ (c : Thread nD τ) none Set.univ (m := swM) (r := oneR) (f := swstg m ρ c) (S := Finset.univ) (Finset.subset_univ _)) $$ Hb
  iintro Hb
  iapply (wp_load 𝒱₀ (c : Thread nD τ) none Set.univ (m := oM) (S := Finset.univ) (Finset.subset_univ _)) $$ Ho
  iintro Ho
  iapply (wp_store 𝒱₀ (c : Thread nD τ) none Set.univ (m := oM) (r := offR (spot s (org s j c))) (S := Finset.univ) (Finset.subset_univ _)) $$ Ho
  iintro Ho
  iapply Hk
  isplitl [Hs]
  · iexists f; isplitr; · ipureintro; exact hf
    iexact Hs
  isplitl [Hw]; · iexact Hw
  isplitl [Ha]; · iexact Ha
  isplitl [Hb]; · iexact Hb
  iexists _; isplitr; swap; · iexact Ho
  ipureintro
  intro s' j' hj'
  rw [hf]
  by_cases hs : s' = s ∧ j' = j
  · obtain ⟨rfl, rfl⟩ := hs
    rw [View.read_write_univ, read_w8]; rfl
  · rw [View.read_slice_write_slice_of_disjoint]
    · refine hg s' j' ?_
      by_cases hss : s' = s
      · subst hss
        rw [Function.update_self] at hj'
        have : j'.val ≠ j.val := fun h => hs ⟨rfl, Fin.ext h⟩
        omega
      · rwa [Function.update_of_ne hss] at hj'
    · rw [View.setOn_univ]
      exact spot_disjoint _ _ _ _ fun h => hs ⟨h.1, by have := h.1; subst this; exact org_inj _ _ _ _ h.2⟩

/-- After all products the block is the whole result. -/
theorem outI_done (c : Dev nD) (e : Fin 4 → ℕ) (he : ∀ s, 8 ≤ e s) : outI m ρ c e ⊢ held c cc0_stg4_0 (outAt m ρ c) := by
  unfold outI
  iintro ⟨%f, %hf, H⟩
  have hfo : f = outAt m ρ c := by
    funext i
    have hi : (i 0).val < 4096 := (i 0).isLt
    obtain ⟨j, hj⟩ := org_onto ⟨((i 0).val / 128) % 4, by omega⟩ c ⟨(i 0).val / 512, by show _ < 8; omega⟩
    have h := hf ⟨((i 0).val / 128) % 4, by omega⟩ j (lt_of_lt_of_le j.isLt (he _))
    rw [hj] at h
    have h' := congrFun h (Shape.pair ⟨(i 0).val % 128, Nat.mod_lt _ (by decide)⟩ (i 1))
    refine Eq.trans ?_ h'
    refine congrArg f ?_
    funext a
    apply Fin.ext
    fin_cases a
    · show (i 0).val = 512 * ((i 0).val / 512) + 128 * (((i 0).val / 128) % 4) + 1 * ((i 0).val % 128)
      omega
    · show (i 1).val = 0 + 1 * (i 1).val
      omega
  subst hfo
  iexact H

end Cert.KernelIdealRun

end
-- ==== Proof.KernelIdeal.Body.lean ====
/-
# The whole body

One hop at any number; the opening, the last hop and the waits for the sends; and the body from end to end.
-/
module

public import proofs.«01_k».proof.Proof.KernelIdeal.Work

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## A product, and an arrival sent on, within a stream -/

/-- What the products share: the copy of `w`, the two scales and the result block. -/
def Carry (c : Dev nD) (e : Fin 4 → ℕ) : sProp 𝕄 :=
  iprop(held c cc0_scratch12 (wstg m ρ c) ∗ held c cc0_stg2_0 (sxstg m ρ c) ∗ held c cc0_stg3_0 (swstg m ρ c) ∗ outI m ρ c e)

/-- The product of slot `j`: the slot is only read, and its block of the result is written. -/
theorem wp_prod (c : Dev nD) (s : Fin 4) (j : Fin 8) (o : Off) (ho : o = spot s (org s j c)) (a b : ℕ) (hj : j.val ≤ b) (e : Fin 4 → ℕ) (he : e s = j.val)
    (k : P F) (Q : PUnit → sProp 𝕄) :
    iprop(Stm m ρ c s a b 0 ∗ Carry m ρ c e)
      ⊢ iprop(((Stm m ρ c s a b 0 ∗ Carry m ρ c (Function.update e s (j.val + 1))) -∗ Runs c k Q) -∗ Runs c (product s j o k) Q) := by
  unfold Stm Carry
  iintro ⟨⟨HS, HV, HL⟩, Hw, Ha, Hb, Ho⟩ Hk
  ihave ⟨Hl, HL⟩ := (bigSep_univ_update (Φ := fun j => slotI m ρ c s a b 0 j) (Ψ := fun j => slotI m ρ c s a b 0 j) j (fun _ _ => rfl)) $$ HL
  have hslot : ∃ q, slotI m ρ c s a b 0 j = slotP c s j q (rowsOf m ρ s (org s j c)) := by
    unfold slotI; rw [if_neg (Nat.not_lt_zero _)]
    by_cases hlt : j.val < a
    · exact ⟨_, if_pos hlt⟩
    · exact ⟨_, by rw [if_neg hlt, if_pos hj]⟩
  obtain ⟨q, hq⟩ := hslot
  ihave Hl := (Entails.of_eq hq) $$ Hl
  iapply (wp_product m ρ c s j o ho q e he k Q) $$ [Hl Hw Ha Hb Ho]
  · isplitl [Hl]; · iexact Hl
    isplitl [Hw]; · iexact Hw
    isplitl [Ha]; · iexact Ha
    isplitl [Hb]; · iexact Hb
    iexact Ho
  iintro ⟨Hl, HC⟩
  iapply Hk
  isplitr [HC]; swap; · iexact HC
  isplitl [HS]; · iexact HS
  isplitl [HV]; · iexact HV
  iapply HL
  iapply (Entails.of_eq hq.symm); iexact Hl

/-- An arrival and the send that passes it on move the stream one hop further. -/
theorem wp_relay (c n : Dev nD) (s : Fin 4) (hn : n = nbr s c) (h h' : Fin 7) (hh : h'.val = h.val + 1) (A : Fin 4 → ℕ) (hA : A s = h.val + 1)
    (hlt : ∀ s', h.val < A s') (k : P F) (Q : PUnit → sProp 𝕄) :
    iprop(env m ρ K ∗ Stm m ρ c s (h.val + 1) h.val 0 ∗ owesE c (O c A))
      ⊢ iprop(((Stm m ρ c s (h'.val + 1) h'.val 0 ∗ owesE c (O c (Function.update A s (h'.val + 1)))) -∗ Runs c k Q)
        -∗ Runs c (arrive s h (send s h' n k)) Q) := by
  iintro ⟨#He, HS, HO⟩ Hk
  iapply (wp_arrive m ρ K c s h (h.val + 1) A (Nat.le_refl _) hlt _ Q) $$ [HS HO]
  · isplitr; · iexact He
    isplitl [HS]; · iexact HS
    iexact HO
  iintro ⟨HS, HO⟩
  iapply (wp_send m ρ K c n s hn h' A (hA.trans hh.symm) k Q) $$ [HS HO]
  · isplitr; · iexact He
    isplitl [HS]; · rw [hh]; iexact HS
    iexact HO
  iexact Hk

/-! ## A hop -/

/-- The state before hop `h`: the sends up to hop `h` have started, the arrivals before it are over, slots up to `h` are multiplied. -/
def St (c : Dev nD) (h : ℕ) : sProp 𝕄 :=
  iprop(Stm m ρ c 0 (h + 1) h 0 ∗ Stm m ρ c 1 (h + 1) h 0 ∗ Stm m ρ c 2 (h + 1) h 0 ∗ Stm m ρ c 3 (h + 1) h 0
    ∗ Carry m ρ c (fun _ => h + 1) ∗ owesE c (O c fun _ => h + 1))

/-- A function updated at all four streams is constant. -/
theorem upd_all (x y : ℕ) (a b c d : Fin 4) (h : ∀ s : Fin 4, s = a ∨ s = b ∨ s = c ∨ s = d) :
    Function.update (Function.update (Function.update (Function.update (fun _ => x) a y) b y) c y) d y = fun _ => y := by
  funext s
  simp only [Function.update_apply]
  rcases h s with rfl | rfl | rfl | rfl <;> simp

/-- A hop takes the state before it to the state before the next. -/
theorem wp_hop (c : Dev nD) (h h' : Fin 7) (hh : h'.val = h.val + 1) (n₀ n₂ n₁ n₃ : Dev nD) (o₀ o₂ o₁ o₃ : Off)
    (hn₀ : n₀ = nbr 0 c) (hn₂ : n₂ = nbr 2 c) (hn₁ : n₁ = nbr 1 c) (hn₃ : n₃ = nbr 3 c)
    (ho₀ : o₀ = spot 0 (org 0 (hi h) c)) (ho₂ : o₂ = spot 2 (org 2 (hi h) c)) (ho₁ : o₁ = spot 1 (org 1 (hi h) c)) (ho₃ : o₃ = spot 3 (org 3 (hi h) c))
    (k : P F) (Q : PUnit → sProp 𝕄) :
    iprop(env m ρ K ∗ St m ρ c h.val) ⊢ iprop((St m ρ c h'.val -∗ Runs c k Q) -∗ Runs c (hop h h' n₀ n₂ n₁ n₃ o₀ o₂ o₁ o₃ k) Q) := by
  unfold hop St
  iintro ⟨#He, H₀, H₁, H₂, H₃, HC, HO⟩ Hk
  iapply (wp_relay m ρ K c n₀ 0 hn₀ h h' hh (fun _ => h.val + 1) rfl (fun _ => Nat.lt_succ_self _) _ Q) $$ [H₀ HO]
  · isplitr; · iexact He
    isplitl [H₀]; · iexact H₀
    iexact HO
  iintro ⟨H₀, HO⟩
  iapply (wp_relay m ρ K c n₂ 2 hn₂ h h' hh (Function.update (fun _ => h.val + 1) 0 (h'.val + 1)) rfl
    (fun s' => by rw [Function.update_apply]; split <;> omega) _ Q) $$ [H₂ HO]
  · isplitr; · iexact He
    isplitl [H₂]; · iexact H₂
    iexact HO
  iintro ⟨H₂, HO⟩
  iapply (wp_prod m ρ c 0 (hi h) o₀ ho₀ (h'.val + 1) h'.val hh.ge (fun _ => h.val + 1) rfl _ Q) $$ [H₀ HC]
  · isplitl [H₀]; · iexact H₀
    iexact HC
  iintro ⟨H₀, HC⟩
  iapply (wp_prod m ρ c 2 (hi h) o₂ ho₂ (h'.val + 1) h'.val hh.ge (Function.update (fun _ => h.val + 1) 0 ((hi h).val + 1)) rfl _ Q) $$ [H₂ HC]
  · isplitl [H₂]; · iexact H₂
    iexact HC
  iintro ⟨H₂, HC⟩
  iapply (wp_relay m ρ K c n₁ 1 hn₁ h h' hh (Function.update (Function.update (fun _ => h.val + 1) 0 (h'.val + 1)) 2 (h'.val + 1)) rfl
    (fun s' => by rw [Function.update_apply, Function.update_apply]; split; · omega
                  split <;> omega) _ Q) $$ [H₁ HO]
  · isplitr; · iexact He
    isplitl [H₁]; · iexact H₁
    iexact HO
  iintro ⟨H₁, HO⟩
  iapply (wp_relay m ρ K c n₃ 3 hn₃ h h' hh (Function.update (Function.update (Function.update (fun _ => h.val + 1) 0 (h'.val + 1)) 2 (h'.val + 1)) 1 (h'.val + 1)) rfl
    (fun s' => by
      rw [Function.update_apply, Function.update_apply, Function.update_apply]; split; · omega
      split; · omega
      split <;> omega) _ Q) $$ [H₃ HO]
  · isplitr; · iexact He
    isplitl [H₃]; · iexact H₃
    iexact HO
  iintro ⟨H₃, HO⟩
  iapply (wp_prod m ρ c 1 (hi h) o₁ ho₁ (h'.val + 1) h'.val hh.ge (Function.update (Function.update (fun _ => h.val + 1) 0 ((hi h).val + 1)) 2 ((hi h).val + 1)) rfl _ Q) $$ [H₁ HC]
  · isplitl [H₁]; · iexact H₁
    iexact HC
  iintro ⟨H₁, HC⟩
  iapply (wp_prod m ρ c 3 (hi h) o₃ ho₃ (h'.val + 1) h'.val hh.ge (Function.update (Function.update (Function.update (fun _ => h.val + 1) 0 ((hi h).val + 1)) 2 ((hi h).val + 1)) 1 ((hi h).val + 1)) rfl _ Q) $$ [H₃ HC]
  · isplitl [H₃]; · iexact H₃
    iexact HC
  iintro ⟨H₃, HC⟩
  rw [upd_all _ _ 0 2 1 3 (by decide), show (hi h).val + 1 = h'.val + 1 from by rw [hh], upd_all _ _ 0 2 1 3 (by decide)]
  iapply Hk
  isplitl [H₀]; · iexact H₀
  isplitl [H₁]; · iexact H₁
  isplitl [H₂]; · iexact H₂
  isplitl [H₃]; · iexact H₃
  isplitl [HC]; · iexact HC
  iexact HO

/-- The state once everything has arrived and is multiplied. -/
def StEnd (c : Dev nD) : sProp 𝕄 :=
  iprop(Stm m ρ c 0 7 7 0 ∗ Stm m ρ c 1 7 7 0 ∗ Stm m ρ c 2 7 7 0 ∗ Stm m ρ c 3 7 7 0 ∗ Carry m ρ c (fun _ => 8) ∗ owesE c 0)

/-- The last hop sends nothing on: everything has arrived and is multiplied. -/
theorem wp_lastHop (c : Dev nD) (o₀ o₂ o₁ o₃ : Off)
    (ho₀ : o₀ = spot 0 (org 0 (hi 6) c)) (ho₂ : o₂ = spot 2 (org 2 (hi 6) c)) (ho₁ : o₁ = spot 1 (org 1 (hi 6) c)) (ho₃ : o₃ = spot 3 (org 3 (hi 6) c))
    (k : P F) (Q : PUnit → sProp 𝕄) :
    iprop(env m ρ K ∗ St m ρ c 6) ⊢ iprop((StEnd m ρ c -∗ Runs c k Q) -∗ Runs c (lastHop 6 o₀ o₂ o₁ o₃ k) Q) := by
  have hlt : ∀ s' : Fin 4, (6 : Fin 7).val < (fun _ : Fin 4 => 6 + 1) s' := fun _ => Nat.lt_succ_self 6
  unfold lastHop St StEnd
  iintro ⟨#He, H₀, H₁, H₂, H₃, HC, HO⟩ Hk
  iapply (wp_arrive m ρ K c 0 6 7 (fun _ => 6 + 1) (by decide) hlt _ Q) $$ [H₀ HO]
  · isplitr; · iexact He
    isplitl [H₀]; · iexact H₀
    iexact HO
  iintro ⟨H₀, HO⟩
  iapply (wp_arrive m ρ K c 2 6 7 (fun _ => 6 + 1) (by decide) hlt _ Q) $$ [H₂ HO]
  · isplitr; · iexact He
    isplitl [H₂]; · iexact H₂
    iexact HO
  iintro ⟨H₂, HO⟩
  iapply (wp_prod m ρ c 0 (hi 6) o₀ ho₀ 7 7 (by decide) (fun _ => 6 + 1) rfl _ Q) $$ [H₀ HC]
  · isplitl [H₀]; · iexact H₀
    iexact HC
  iintro ⟨H₀, HC⟩
  iapply (wp_prod m ρ c 2 (hi 6) o₂ ho₂ 7 7 (by decide) (Function.update (fun _ => 6 + 1) 0 ((hi 6).val + 1)) rfl _ Q) $$ [H₂ HC]
  · isplitl [H₂]; · iexact H₂
    iexact HC
  iintro ⟨H₂, HC⟩
  iapply (wp_arrive m ρ K c 1 6 7 (fun _ => 6 + 1) (by decide) hlt _ Q) $$ [H₁ HO]
  · isplitr; · iexact He
    isplitl [H₁]; · iexact H₁
    iexact HO
  iintro ⟨H₁, HO⟩
  iapply (wp_arrive m ρ K c 3 6 7 (fun _ => 6 + 1) (by decide) hlt _ Q) $$ [H₃ HO]
  · isplitr; · iexact He
    isplitl [H₃]; · iexact H₃
    iexact HO
  iintro ⟨H₃, HO⟩
  iapply (wp_prod m ρ c 1 (hi 6) o₁ ho₁ 7 7 (by decide) (Function.update (Function.update (fun _ => 6 + 1) 0 ((hi 6).val + 1)) 2 ((hi 6).val + 1)) rfl _ Q) $$ [H₁ HC]
  · isplitl [H₁]; · iexact H₁
    iexact HC
  iintro ⟨H₁, HC⟩
  iapply (wp_prod m ρ c 3 (hi 6) o₃ ho₃ 7 7 (by decide) (Function.update (Function.update (Function.update (fun _ => 6 + 1) 0 ((hi 6).val + 1)) 2 ((hi 6).val + 1)) 1 ((hi 6).val + 1)) rfl _ Q) $$ [H₃ HC]
  · isplitl [H₃]; · iexact H₃
    iexact HC
  iintro ⟨H₃, HC⟩
  rw [upd_all _ _ 0 2 1 3 (by decide), O_done c (fun _ => 6 + 1) (fun _ => Nat.le_refl _)]
  iapply Hk
  isplitl [H₀]; · iexact H₀
  isplitl [H₁]; · iexact H₁
  isplitl [H₂]; · iexact H₂
  isplitl [H₃]; · iexact H₃
  isplitl [HC]; · iexact HC
  iexact HO

/-! ## The waits for the sends -/

/-- The waits for the seven sends of a stream. -/
theorem wp_drains (c : Dev nD) (s : Fin 4) (k : P F) (Q : PUnit → sProp 𝕄) :
    iprop(env m ρ K ∗ Stm m ρ c s 7 7 0 ∗ owesE c 0) ⊢ iprop(((Stm m ρ c s 7 7 7 ∗ owesE c 0) -∗ Runs c k Q) -∗ Runs c (drains s k) Q) := by
  unfold drains
  iintro ⟨#He, HS⟩ Hk
  iapply (wp_drain m ρ K c s 0 _ Q) $$ [HS]
  · isplitr; · iexact He
    iexact HS
  iintro HS
  iapply (wp_drain m ρ K c s 1 _ Q) $$ [HS]
  · isplitr; · iexact He
    iexact HS
  iintro HS
  iapply (wp_drain m ρ K c s 2 _ Q) $$ [HS]
  · isplitr; · iexact He
    iexact HS
  iintro HS
  iapply (wp_drain m ρ K c s 3 _ Q) $$ [HS]
  · isplitr; · iexact He
    iexact HS
  iintro HS
  iapply (wp_drain m ρ K c s 4 _ Q) $$ [HS]
  · isplitr; · iexact He
    iexact HS
  iintro HS
  iapply (wp_drain m ρ K c s 5 _ Q) $$ [HS]
  · isplitr; · iexact He
    iexact HS
  iintro HS
  iapply (wp_drain m ρ K c s 6 _ Q) $$ [HS]
  · isplitr; · iexact He
    iexact HS
  iexact Hk

/-! ## The opening -/

/-- A stream at launch: the positions and tokens of its sends, its arrivals to come, slot 0. -/
def sends0 (c : Dev nD) (s : Fin 4) : sProp 𝕄 := bigSep Finset.univ fun h : Fin 7 =>
  iprop(atPos ER (sendCell c s h) 0 ∅ 0 ∗ dutyTok ER (sendCell c s h) 0 false ∗ dutyTok ER (recvCell (nbr s c) s h) 0 false)
/-- A stream before the handshake: its sends and arrivals to come, and slot 0. -/
def Pre (c : Dev nD) (s : Fin 4) : sProp 𝕄 :=
  iprop(sends0 c s ∗ (bigSep Finset.univ fun h : Fin 7 => recvI (F := F) c s 0 h) ∗ slotA c s 0)

/-- With the neighbour's slots and slot 0 filled it is at its start. -/
theorem stm_start (c : Dev nD) (s : Fin 4) :
    iprop(sends0 (F := F) c s ∗ room s c ∗ (bigSep Finset.univ fun h : Fin 7 => recvI (F := F) c s 0 h) ∗ slotP c s 0 fullShare (rowsOf m ρ s (org s 0 c)))
      ⊢ Stm m ρ c s 0 0 0 := by
  unfold sends0 room Stm
  iintro ⟨Ht, Hr, HV, Hl⟩
  isplitl [Ht Hr]
  · iapply (show iprop((bigSep Finset.univ fun h : Fin 7 =>
          iprop(atPos ER (sendCell c s h) 0 ∅ 0 ∗ dutyTok ER (sendCell c s h) 0 false ∗ dutyTok ER (recvCell (nbr s c) s h) 0 false))
        ∗ bigSep Finset.univ fun h : Fin 7 => slotA (nbr s c) s (hi h)) ⊢ (bigSep Finset.univ fun h => sendI (F := F) c s 0 0 h : sProp 𝕄) from by
      rw [← bigSep_sep']
      exact bigSep_mono fun h _ => show (_ : sProp 𝕄) ⊢ _ from by
        unfold sendI; rw [if_neg (Nat.not_lt_zero _), if_neg (Nat.not_lt_zero _)]
        iintro ⟨⟨H₁, H₂, H₃⟩, H₄⟩
        isplitl [H₁]; · iexact H₁
        isplitl [H₂]; · iexact H₂
        isplitl [H₃]; · iexact H₃
        iexact H₄)
    isplitl [Ht]; · iexact Ht
    iexact Hr
  isplitl [HV]; · iexact HV
  ihave ⟨-, Hb⟩ := (bigSep_univ_update (Φ := fun j : Fin 8 => (iprop(emp) : sProp 𝕄)) (Ψ := fun j => slotI m ρ c s 0 0 0 j) 0 (fun j hj => by
    unfold slotI; rw [if_neg (Nat.not_lt_zero _), if_neg (Nat.not_lt_zero _), if_neg]
    intro h; exact hj (Fin.ext (Nat.le_zero.mp h)))) $$ []
  · rw [show (bigSep Finset.univ fun _ : Fin 8 => (iprop(emp) : sProp 𝕄)) = iprop(emp) from bigSep_emp_const _]; iempintro
  iapply Hb; unfold slotI
  rw [if_neg (Nat.not_lt_zero _), if_neg (Nat.not_lt_zero _), if_pos (show (0 : Fin 8).val ≤ 0 from Nat.le_refl _)]; iexact Hl

/-- A stream at its end: its semaphores at zero, its slots whole. -/
def Fin' (c : Dev nD) (s : Fin 4) : sProp 𝕄 :=
  iprop((bigSep Finset.univ fun h : Fin 7 => semVal (sendCell c s h) 0) ∗ (bigSep Finset.univ fun h : Fin 7 => semVal (recvCell c s h) 0)
    ∗ bigSep Finset.univ fun j : Fin 8 => slotA (F := F) c s j)
/-- A stream whose sends are all done is at its end. -/
theorem stm_end (c : Dev nD) (s : Fin 4) : Stm m ρ c s 7 7 7 ⊢ Fin' (F := F) c s := by
  unfold Stm Fin'
  iintro ⟨HS, HV, HL⟩
  isplitl [HS]
  · iapply (Entails.of_eq (show (bigSep Finset.univ fun h => sendI (F := F) c s 7 7 h) = (bigSep Finset.univ fun h : Fin 7 => semVal (sendCell c s h) 0) from
      bigSep_congr fun h _ => if_pos h.isLt)); iexact HS
  isplitl [HV]
  · iapply (Entails.of_eq (show (bigSep Finset.univ fun h => recvI (F := F) c s 7 h) = (bigSep Finset.univ fun h : Fin 7 => semVal (recvCell c s h) 0) from
      bigSep_congr fun h _ => if_pos h.isLt)); iexact HV
  iapply (show (bigSep Finset.univ fun j => slotI m ρ c s 7 7 7 j) ⊢ (bigSep Finset.univ fun j : Fin 8 => slotA (F := F) c s j : sProp 𝕄) from
    bigSep_mono fun j _ => show (_ : sProp 𝕄) ⊢ _ from by
      have hj : slotI m ρ c s 7 7 7 j = slotP c s j fullShare (rowsOf m ρ s (org s j c)) := by
        unfold slotI
        by_cases h : j.val < 7
        · rw [if_pos h]
        · rw [if_neg h, if_neg h, if_pos (show j.val ≤ 7 from Nat.le_of_lt_succ j.isLt)]
      rw [hj]; unfold slotP slotA
      iintro ⟨%f, -, H⟩
      iexists f; iexact H)
  iexact HL

/-- What a device starts with. -/
def Begin (c : Dev nD) : sProp 𝕄 :=
  iprop((Pre (F := F) c 0 ∗ Pre c 1 ∗ Pre c 2 ∗ Pre c 3) ∗ ((room (F := F) 0 (prv c) ∗ room 1 (prv c)) ∗ room 2 (nxt c) ∗ room 3 (nxt c))
    ∗ (dutyTok ER (barCell (prv c)) 0 true ∗ dutyTok ER (barCell (nxt c)) 0 false ∗ atPos ER (barCell c) 0 ∅ 0 ∗ cred (tallyAt (barCell c) () 2))
    ∗ owesE c (O₀ c) ∗ held c cc0_stg0_0 (xstg m ρ c) ∗ held c cc0_stg1_0 (wstg m ρ c) ∗ held c cc0_stg2_0 (sxstg m ρ c) ∗ held c cc0_stg3_0 (swstg m ρ c)
    ∗ (∃ f, held c cc0_scratch12 f) ∗ ∃ f, held c cc0_stg4_0 f)

/-- The opening: the handshake, slot 0 of each stream filled and sent, the `w` block copied, slot 0 multiplied. -/
theorem wp_opening (c p n n₀ n₁ n₂ n₃ : Dev nD) (r₀ r₁ r₂ r₃ : RowOff) (o₀ o₁ o₂ o₃ : Off) (hp : p = prv c) (hn : n = nxt c)
    (hn₀ : n₀ = nbr 0 c) (hn₁ : n₁ = nbr 1 c) (hn₂ : n₂ = nbr 2 c) (hn₃ : n₃ = nbr 3 c)
    (hr₀ : r₀ = rowAt 0) (hr₁ : r₁ = rowAt 1) (hr₂ : r₂ = rowAt 2) (hr₃ : r₃ = rowAt 3)
    (ho₀ : o₀ = spot 0 (org 0 0 c)) (ho₁ : o₁ = spot 1 (org 1 0 c)) (ho₂ : o₂ = spot 2 (org 2 0 c)) (ho₃ : o₃ = spot 3 (org 3 0 c))
    (k : P F) (Q : PUnit → sProp 𝕄) :
    iprop(env m ρ K ∗ Begin m ρ c)
      ⊢ iprop(((St m ρ c 0 ∗ semVal (barCell c) 0 ∗ held c cc0_stg0_0 (xstg m ρ c) ∗ held c cc0_stg1_0 (wstg m ρ c)) -∗ Runs c k Q)
        -∗ Runs c (opening p n n₀ n₁ n₂ n₃ r₀ r₁ r₂ r₃ o₀ o₁ o₂ o₃ k) Q) := by
  unfold opening Begin Pre
  iintro ⟨#He, ⟨⟨T₀, V₀, L₀⟩, ⟨T₁, V₁, L₁⟩, ⟨T₂, V₂, L₂⟩, ⟨T₃, V₃, L₃⟩⟩, Hroom, ⟨Ht, Ht', Hat, Hc⟩, HO, Hx, Hw, Ha, Hb, ⟨%f, Hs⟩, ⟨%g, Ho⟩⟩ Hk
  iapply (wp_greet m ρ K c p n hp hn _ Q) $$ [Hroom Ht Ht' Hat Hc HO]
  · isplitr; · iexact He
    isplitl [Hroom]; · iexact Hroom
    isplitl [Ht]; · iexact Ht
    isplitl [Ht']; · iexact Ht'
    isplitl [Hat]; · iexact Hat
    isplitl [Hc]; · iexact Hc
    iexact HO
  iintro ⟨⟨R₀, R₁, R₂, R₃⟩, Hz, HO⟩
  iapply (wp_fill m ρ c 0 r₀ hr₀ _ Q) $$ [L₀ Hx]
  · isplitl [L₀]; · iexact L₀
    iexact Hx
  iintro ⟨L₀, Hx⟩
  ihave S₀ := (stm_start m ρ c 0) $$ [T₀ R₀ V₀ L₀]
  · isplitl [T₀]; · iexact T₀
    isplitl [R₀]; · iexact R₀
    isplitl [V₀]; · iexact V₀
    iexact L₀
  iapply (wp_fill m ρ c 1 r₁ hr₁ _ Q) $$ [L₁ Hx]
  · isplitl [L₁]; · iexact L₁
    iexact Hx
  iintro ⟨L₁, Hx⟩
  ihave S₁ := (stm_start m ρ c 1) $$ [T₁ R₁ V₁ L₁]
  · isplitl [T₁]; · iexact T₁
    isplitl [R₁]; · iexact R₁
    isplitl [V₁]; · iexact V₁
    iexact L₁
  iapply (wp_fill m ρ c 2 r₂ hr₂ _ Q) $$ [L₂ Hx]
  · isplitl [L₂]; · iexact L₂
    iexact Hx
  iintro ⟨L₂, Hx⟩
  ihave S₂ := (stm_start m ρ c 2) $$ [T₂ R₂ V₂ L₂]
  · isplitl [T₂]; · iexact T₂
    isplitl [R₂]; · iexact R₂
    isplitl [V₂]; · iexact V₂
    iexact L₂
  iapply (wp_fill m ρ c 3 r₃ hr₃ _ Q) $$ [L₃ Hx]
  · isplitl [L₃]; · iexact L₃
    iexact Hx
  iintro ⟨L₃, Hx⟩
  ihave S₃ := (stm_start m ρ c 3) $$ [T₃ R₃ V₃ L₃]
  · isplitl [T₃]; · iexact T₃
    isplitl [R₃]; · iexact R₃
    isplitl [V₃]; · iexact V₃
    iexact L₃
  iapply (wp_send m ρ K c n₀ 0 hn₀ 0 (fun _ => 0) rfl _ Q) $$ [S₀ HO]
  · isplitr; · iexact He
    isplitl [S₀]; · iexact S₀
    iexact HO
  iintro ⟨S₀, HO⟩
  iapply (wp_send m ρ K c n₁ 1 hn₁ 0 (Function.update (fun _ => 0) 0 ((0 : Fin 7).val + 1)) rfl _ Q) $$ [S₁ HO]
  · isplitr; · iexact He
    isplitl [S₁]; · iexact S₁
    iexact HO
  iintro ⟨S₁, HO⟩
  iapply (wp_send m ρ K c n₂ 2 hn₂ 0 (Function.update (Function.update (fun _ => 0) 0 ((0 : Fin 7).val + 1)) 1 ((0 : Fin 7).val + 1)) rfl _ Q) $$ [S₂ HO]
  · isplitr; · iexact He
    isplitl [S₂]; · iexact S₂
    iexact HO
  iintro ⟨S₂, HO⟩
  iapply (wp_send m ρ K c n₃ 3 hn₃ 0 (Function.update (Function.update (Function.update (fun _ => 0) 0 ((0 : Fin 7).val + 1)) 1 ((0 : Fin 7).val + 1)) 2 ((0 : Fin 7).val + 1)) rfl _ Q) $$ [S₃ HO]
  · isplitr; · iexact He
    isplitl [S₃]; · iexact S₃
    iexact HO
  iintro ⟨S₃, HO⟩
  iapply (wp_keepW m ρ c f _ Q) $$ [Hs Hw]
  · isplitl [Hs]; · iexact Hs
    iexact Hw
  iintro ⟨Hs, Hw⟩
  ihave HC := (show iprop(held c cc0_scratch12 (wstg m ρ c) ∗ held c cc0_stg2_0 (sxstg m ρ c) ∗ held c cc0_stg3_0 (swstg m ρ c) ∗ held c cc0_stg4_0 g)
      ⊢ Carry m ρ c (fun _ => 0) from by
    unfold Carry outI
    iintro ⟨H₁, H₂, H₃, H₄⟩
    isplitl [H₁]; · iexact H₁
    isplitl [H₂]; · iexact H₂
    isplitl [H₃]; · iexact H₃
    iexists g; isplitr; · ipureintro; exact fun _ _ h => absurd h (Nat.not_lt_zero _)
    iexact H₄) $$ [Hs Ha Hb Ho]
  · isplitl [Hs]; · iexact Hs
    isplitl [Ha]; · iexact Ha
    isplitl [Hb]; · iexact Hb
    iexact Ho
  iapply (wp_prod m ρ c 0 0 o₀ ho₀ 1 0 (Nat.le_refl _) (fun _ => 0) rfl _ Q) $$ [S₀ HC]
  · isplitl [S₀]; · iexact S₀
    iexact HC
  iintro ⟨S₀, HC⟩
  iapply (wp_prod m ρ c 1 0 o₁ ho₁ 1 0 (Nat.le_refl _) (Function.update (fun _ => 0) 0 ((0 : Fin 8).val + 1)) rfl _ Q) $$ [S₁ HC]
  · isplitl [S₁]; · iexact S₁
    iexact HC
  iintro ⟨S₁, HC⟩
  iapply (wp_prod m ρ c 2 0 o₂ ho₂ 1 0 (Nat.le_refl _) (Function.update (Function.update (fun _ => 0) 0 ((0 : Fin 8).val + 1)) 1 ((0 : Fin 8).val + 1)) rfl _ Q) $$ [S₂ HC]
  · isplitl [S₂]; · iexact S₂
    iexact HC
  iintro ⟨S₂, HC⟩
  iapply (wp_prod m ρ c 3 0 o₃ ho₃ 1 0 (Nat.le_refl _) (Function.update (Function.update (Function.update (fun _ => 0) 0 ((0 : Fin 8).val + 1)) 1 ((0 : Fin 8).val + 1)) 2 ((0 : Fin 8).val + 1)) rfl _ Q) $$ [S₃ HC]
  · isplitl [S₃]; · iexact S₃
    iexact HC
  iintro ⟨S₃, HC⟩
  rw [upd_all _ _ 0 1 2 3 (by decide), upd_all _ _ 0 1 2 3 (by decide)]
  iapply Hk
  isplitr [Hz Hx Hw]
  · unfold St
    isplitl [S₀]; · iexact S₀
    isplitl [S₁]; · iexact S₁
    isplitl [S₂]; · iexact S₂
    isplitl [S₃]; · iexact S₃
    isplitl [HC]; · iexact HC
    iexact HO
  isplitl [Hz]; · iexact Hz
  isplitl [Hx]; · iexact Hx
  iexact Hw

/-! ## From end to end -/

/-- What a device ends with. -/
def Finish (c : Dev nD) : sProp 𝕄 :=
  iprop((Fin' (F := F) c 0 ∗ Fin' c 1 ∗ Fin' c 2 ∗ Fin' c 3) ∗ semVal (barCell c) 0 ∗ owesE c 0
    ∗ held c cc0_stg0_0 (xstg m ρ c) ∗ held c cc0_stg1_0 (wstg m ρ c) ∗ held c cc0_stg2_0 (sxstg m ρ c) ∗ held c cc0_stg3_0 (swstg m ρ c)
    ∗ held c cc0_scratch12 (wstg m ρ c) ∗ held c cc0_stg4_0 (outAt m ρ c))

/-- The body runs from `Begin` to `Finish`. -/
theorem wp_whole (c : Dev nD) (Q : PUnit → sProp 𝕄) :
    iprop(env m ρ K ∗ Begin m ρ c ∗ (Finish m ρ c -∗ Q ⟨⟩)) ⊢ Runs c (whole (F := F) c) Q := by
  unfold whole
  iintro ⟨#He, HB, Hk⟩
  iapply (wp_opening m ρ K c _ _ _ _ _ _ _ _ _ _ _ _ _ _ (dev1_eq c) (dev2_eq c) (dev3_eq c) (dev4_eq c) (dev5_eq c) (dev6_eq c) rfl rfl rfl rfl
    (ownOff_eq c 0) (ownOff_eq c 1) (ownOff_eq c 2) (ownOff_eq c 3) _ Q) $$ [HB]
  · isplitr; · iexact He
    iexact HB
  iintro ⟨HS, Hz, Hx, Hw⟩
  iapply (wp_hop m ρ K c 0 1 rfl _ _ _ _ _ _ _ _ (dev7_eq c) (dev8_eq c) (dev9_eq c) (dev10_eq c)
    (rightOff_eq c 0 0) (leftOff_eq c 0 0) (rightOff_eq c 0 1) (leftOff_eq c 0 1) _ Q) $$ [HS]
  · isplitr; · iexact He
    iexact HS
  iintro HS
  iapply (wp_hop m ρ K c 1 2 rfl _ _ _ _ _ _ _ _ (dev11_eq c) (dev12_eq c) (dev13_eq c) (dev14_eq c)
    (rightOff_eq c 1 0) (leftOff_eq c 1 0) (rightOff_eq c 1 1) (leftOff_eq c 1 1) _ Q) $$ [HS]
  · isplitr; · iexact He
    iexact HS
  iintro HS
  iapply (wp_hop m ρ K c 2 3 rfl _ _ _ _ _ _ _ _ (dev15_eq c) (dev16_eq c) (dev17_eq c) (dev18_eq c)
    (rightOff_eq c 2 0) (leftOff_eq c 2 0) (rightOff_eq c 2 1) (leftOff_eq c 2 1) _ Q) $$ [HS]
  · isplitr; · iexact He
    iexact HS
  iintro HS
  iapply (wp_hop m ρ K c 3 4 rfl _ _ _ _ _ _ _ _ (dev19_eq c) (dev20_eq c) (dev21_eq c) (dev22_eq c)
    (rightOff_eq c 3 0) (leftOff_eq c 3 0) (rightOff_eq c 3 1) (leftOff_eq c 3 1) _ Q) $$ [HS]
  · isplitr; · iexact He
    iexact HS
  iintro HS
  iapply (wp_hop m ρ K c 4 5 rfl _ _ _ _ _ _ _ _ (dev23_eq c) (dev24_eq c) (dev25_eq c) (dev26_eq c)
    (rightOff_eq c 4 0) (leftOff_eq c 4 0) (rightOff_eq c 4 1) (leftOff_eq c 4 1) _ Q) $$ [HS]
  · isplitr; · iexact He
    iexact HS
  iintro HS
  iapply (wp_hop m ρ K c 5 6 rfl _ _ _ _ _ _ _ _ (dev27_eq c) (dev28_eq c) (dev29_eq c) (dev30_eq c)
    (rightOff_eq c 5 0) (leftOff_eq c 5 0) (rightOff_eq c 5 1) (leftOff_eq c 5 1) _ Q) $$ [HS]
  · isplitr; · iexact He
    iexact HS
  iintro HS
  iapply (wp_lastHop m ρ K c _ _ _ _ (rightOff_eq c 6 0) (leftOff_eq c 6 0) (rightOff_eq c 6 1) (leftOff_eq c 6 1) _ Q) $$ [HS]
  · isplitr; · iexact He
    iexact HS
  unfold StEnd
  iintro ⟨S₀, S₁, S₂, S₃, HC, HO⟩
  iapply (wp_drains m ρ K c 0 _ Q) $$ [S₀ HO]
  · isplitr; · iexact He
    isplitl [S₀]; · iexact S₀
    iexact HO
  iintro ⟨S₀, HO⟩
  iapply (wp_drains m ρ K c 1 _ Q) $$ [S₁ HO]
  · isplitr; · iexact He
    isplitl [S₁]; · iexact S₁
    iexact HO
  iintro ⟨S₁, HO⟩
  iapply (wp_drains m ρ K c 2 _ Q) $$ [S₂ HO]
  · isplitr; · iexact He
    isplitl [S₂]; · iexact S₂
    iexact HO
  iintro ⟨S₂, HO⟩
  iapply (wp_drains m ρ K c 3 _ Q) $$ [S₃ HO]
  · isplitr; · iexact He
    isplitl [S₃]; · iexact S₃
    iexact HO
  iintro ⟨S₃, HO⟩
  unfold Carry
  icases HC with ⟨Hs, Ha, Hb, Ho⟩
  unfold Runs; rw [wp_ret]
  imodintro
  iapply Hk
  unfold Finish
  isplitl [S₀ S₁ S₂ S₃]
  · isplitl [S₀]; · iapply (stm_end m ρ c 0); iexact S₀
    isplitl [S₁]; · iapply (stm_end m ρ c 1); iexact S₁
    isplitl [S₂]; · iapply (stm_end m ρ c 2); iexact S₂
    iapply (stm_end m ρ c 3); iexact S₃
  isplitl [Hz]; · iexact Hz
  isplitl [HO]; · iexact HO
  isplitl [Hx]; · iexact Hx
  isplitl [Hw]; · iexact Hw
  isplitl [Ha]; · iexact Ha
  isplitl [Hb]; · iexact Hb
  isplitl [Hs]; · iexact Hs
  iapply (outI_done m ρ c (fun _ => 8) (fun _ => Nat.le_refl _)); iexact Ho

end Cert.KernelIdealRun

end
-- ==== Proof.KernelIdeal.Slots.lean ====
/-
# The buffers as slots

A stream's buffer is its eight slots. At the start slot 0 stays with the device and the others go to the device
that sends to it; at the end the eight are the buffer again.
-/
module

public import proofs.«01_k».proof.Proof.KernelIdeal.Body
public import Idealize.ShloMosaic.Lib.Ring
public import Idealize.ShloMosaic.Lib.ViewIndex

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- Different slots of a stream have no element in common. -/
theorem slot_disjoint (s : Fin 4) (j j' : Fin 8) (h : j ≠ j') : Disjoint (slotM s j).view.set (slotM s j').view.set := by
  rw [View.set_reshape, View.set_reshape]
  refine View.disjoint_slice (Rect.unit_disjoint (0 : Fin 3) ?_)
  have : j.val ≠ j'.val := fun e => h (Fin.ext e)
  show j.val + 1 ≤ j'.val ∨ j'.val + 1 ≤ j.val
  omega

/-- The eight rectangles cover the shape. -/
theorem rects_cover : Finset.univ.biUnion (fun j : Fin 8 => (slotR j).set) = Finset.univ :=
  Ring.lead_cover (s := S8x128x4096) (0 : Fin 3) 1 (fun j : Fin 8 => ![j.val, 0, 0]) S1x128x4096.size inb_slot
    (fun b => (Nat.one_mul _).symm) (fun b a ha => by fin_cases a <;> first | exact absurd rfl ha | rfl)
    rfl (fun a ha => by fin_cases a <;> first | exact absurd rfl ha | rfl) rfl

/-- The eight slots of a stream are its buffer. -/
theorem slot_cover (s : Fin 4) : Finset.biUnion (β := (bufM s).view.ty.Idx) Finset.univ (fun j : Fin 8 => (slotM s j).view.set) = Finset.univ := by
  have e (j : Fin 8) : (slotM s j).view.set = ((bufM s).slice (slotR j) (fun _ => rfl)).view.set := View.set_reshape _ _
  fin_cases s <;> exact (Finset.biUnion_congr rfl fun j _ => (e j).trans (View.set_slice_whole _ _)).trans rects_cover

/-- A stream's buffer whole, at any contents. -/
def bufA (c : Dev nD) (s : Fin 4) : sProp 𝕄 :=
  iprop(∃ f : Buf (Elt F) ((bufM s).view.loc (c : Thread nD τ)), (bufM s).view.loc (c : Thread nD τ) ↦{fullShare} f)

/-- Cut into slots, -/
theorem buf_cut (c : Dev nD) (s : Fin 4) : bufA (F := F) c s ⊢ bigSep Finset.univ fun j : Fin 8 => slotA (F := F) c s j := by
  unfold bufA
  iintro ⟨%f, H⟩
  iapply (show ((bufM s).view.loc (c : Thread nD τ) ↦{fullShare} f : sProp 𝕄) ⊢ bigSep Finset.univ fun j : Fin 8 => slotA (F := F) c s j from by
    rw [Ring.pointsTo_blocks (ℓ := (bufM s).view.loc (c : Thread nD τ)) (fun j : Fin 8 => (slotM s j).view.set) (slot_disjoint s) (slot_cover s) f]
    exact bigSep_mono fun j _ => show (_ : sProp 𝕄) ⊢ _ from by
      unfold slotA; iintro H; iexists f; iexact H)
  iexact H

/-- and joined again. -/
theorem buf_join [∀ e, Nonempty (Elt F e)] (c : Dev nD) (s : Fin 4) : (bigSep Finset.univ fun j : Fin 8 => slotA (F := F) c s j) ⊢ bufA (F := F) c s := by
  unfold slotA bufA
  exact Ring.pointsTo_blocks_join_exists (ℓ := (bufM s).view.loc (c : Thread nD τ)) (fun j : Fin 8 => (slotM s j).view.set) (slot_disjoint s) (slot_cover s)
    (fun _ => Classical.arbitrary _)

/-- The slots that go to the device that sends to device `c`. -/
def lent (c : Dev nD) (s : Fin 4) : sProp 𝕄 := bigSep Finset.univ fun h : Fin 7 => slotA (F := F) c s (hi h)

/-- Slot 0 and the slots to lend. -/
theorem buf_start (c : Dev nD) (s : Fin 4) : bufA (F := F) c s ⊢ iprop(slotA (F := F) c s 0 ∗ lent c s) :=
  (buf_cut c s).trans (by
    unfold lent
    rw [bigSep_univ_eq_bigSepL [(0 : Fin 8), 1, 2, 3, 4, 5, 6, 7] (by decide) (by decide),
      bigSep_univ_eq_bigSepL [(0 : Fin 7), 1, 2, 3, 4, 5, 6] (by decide) (by decide)]
    exact Entails.of_eq rfl)

theorem lent_room (s : Fin 4) (c : Dev nD) : lent (F := F) (nbr s c) s = room s c := rfl
theorem room_right (s : Fin 4) (hs : s.val < 2) (c : Dev nD) : lent (F := F) c s = room s (prv c) := by
  rw [← lent_room, show nbr s (prv c) = c from (if_pos hs).trans (nxt_prv c)]
theorem room_left (s : Fin 4) (hs : ¬ s.val < 2) (c : Dev nD) : lent (F := F) c s = room s (nxt c) := by
  rw [← lent_room, show nbr s (nxt c) = c from (if_neg hs).trans (prv_nxt c)]

end Cert.KernelIdealRun

end
-- ==== Proof.KernelIdeal.Ghost.lean ====
/-
# The start of the protocol

At launch the cells of the protocol are set up for all devices at once: each device gets the positions of its own
cells, the tokens of what it pays to others, and the credit of what others owe it.
-/
module

public import proofs.«01_k».proof.Proof.KernelIdeal.Slots

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells are distinct -/

/-- The kernel's own semaphores are the ring's send and receive semaphores. -/
theorem ownSemFacts : Pipeline.OwnSemFacts cfg0.spec osem := by decide +kernel

/-- A cell's semaphore tells which of the device's own cells it is. -/
theorem dec_osem (k : OK) (q : DmaSem sig) (h : osem k = .dma q) : dec q.val = k := by
  obtain ⟨b, s, j⟩ := k
  cases b
  · have : sendS s j = q := SemLoc.dma.inj h
    rw [← this, dec_send]
  · have : recvS s j = q := SemLoc.dma.inj h
    rw [← this, dec_recv]
theorem osem_dma (k : OK) : ∃ q, osem k = .dma q := by
  obtain ⟨b, s, j⟩ := k
  cases b
  · exact ⟨_, rfl⟩
  · exact ⟨_, rfl⟩
/-- Different send or receive semaphores have different names, -/
theorem osem_injective : Function.Injective osem := fun k k' h => by
  obtain ⟨q, hq⟩ := osem_dma k
  exact (dec_osem k q hq).symm.trans (dec_osem k' q (h.symm.trans hq))
/-- none of them is the barrier, -/
theorem osem_ne_bar (k : OK) : osem k ≠ .reg barS := fun h => by
  obtain ⟨q, hq⟩ := osem_dma k
  rw [hq] at h; cases h
/-- so all cells of a device are different, -/
theorem csem_injective : Function.Injective csem := by
  rintro (_ | k) (_ | k') h
  · rfl
  · exact absurd h.symm (osem_ne_bar k')
  · exact absurd h (osem_ne_bar k)
  · exact congrArg Sum.inr (osem_injective h)
/-- and so are all cells. -/
theorem kcell_injective : Function.Injective kcell := by
  rintro ⟨c, k⟩ ⟨c', k'⟩ h
  have h₁ : c = c' := congrArg (fun g : GSem nD τ sig => g.1.1) h
  have h₂ : k = k' := csem_injective (congrArg Prod.snd h)
  rw [h₁, h₂]
/-- All cells of the ring. -/
def ringCells : Finset (GSem nD τ sig) := Finset.univ.map ⟨kcell, kcell_injective⟩

/-- A receive cell determines its device, stream and hop. -/
theorem recv_inj {c c' : Dev nD} {s s' : Fin 4} {h h' : Fin 7} (e : recvCell c s h = recvCell c' s' h') : c = c' ∧ s = s' ∧ h = h' := by
  have := kcell_injective (a₁ := (c, .inr (true, s, h))) (a₂ := (c', .inr (true, s', h'))) e
  exact ⟨congrArg Prod.fst this, congrArg (fun k => k.2.1) (Sum.inr.inj (congrArg Prod.snd this)), congrArg (fun k => k.2.2) (Sum.inr.inj (congrArg Prod.snd this))⟩
theorem recv_ne_bar (c c' : Dev nD) (s : Fin 4) (h : Fin 7) : recvCell c s h ≠ barCell c' := fun e => osem_ne_bar (true, s, h) (congrArg Prod.snd e)
theorem bar_inj {c c' : Dev nD} (e : barCell c = barCell c') : c = c' := congrArg (fun g : GSem nD τ sig => g.1.1) e

/-! ## The tokens -/

/-- A device's duties: the two of its barrier cell, one of each other cell. -/
abbrev TK : Type := Bool ⊕ OK
/-- The token of a payment: its cell, its round, and which payment it is. -/
abbrev tokOf (x : Dev nD × TK) : GSem nD τ sig × ℕ × Bool :=
  (((x.1 : Thread nD τ), Sum.elim (fun _ => .reg barS) osem x.2), 0, Sum.elim id (fun _ => false) x.2)
/-- Different payments have different tokens. -/
theorem tokOf_injective : Function.Injective tokOf := by
  rintro ⟨c, k⟩ ⟨c', k'⟩ h
  have h₁ : c = c' := congrArg (fun x : GSem nD τ sig × ℕ × Bool => x.1.1.1) h
  have h₂ := congrArg (fun x : GSem nD τ sig × ℕ × Bool => x.1.2) h
  have h₃ := congrArg (fun x : GSem nD τ sig × ℕ × Bool => x.2.2) h
  have h₄ : k = k' := by
    rcases k with b | k <;> rcases k' with b' | k'
    · exact congrArg Sum.inl h₃
    · exact absurd h₂.symm (osem_ne_bar k')
    · exact absurd h₂ (osem_ne_bar k)
    · exact congrArg Sum.inr (osem_injective h₂)
  rw [h₁, h₄]
/-- All tokens of the ring. -/
def ringToks : Finset (GSem nD τ sig × ℕ × Bool) := Finset.univ.map ⟨tokOf, tokOf_injective⟩

/-- The launch's ghost element. -/
def u₀ : UU := (initOf (Pipeline.cells cfgs cellOf_inj) (Pipeline.launchToks cfgs cellOf_inj), initOf ringCells ringToks)

/-- The tokens of the duties of device `c`'s own cells, -/
def toks (c : Dev nD) : sProp 𝕄 :=
  iprop((dutyTok ER (barCell c) 0 false ∗ dutyTok ER (barCell c) 0 true) ∗ bigSep Finset.univ fun k : OK => dutyTok ER ((c : Thread nD τ), osem k) 0 false)
/-- the device that pays an arrival or a send of device `c`, -/
def payee (k : OK) : Dev nD ≃ Dev nD := if k.1 then along k.2.1 else Equiv.refl _
/-- and the tokens of the duties that device `c` pays. -/
def pays (c : Dev nD) : sProp 𝕄 :=
  iprop((dutyTok ER (barCell (nxt c)) 0 false ∗ dutyTok ER (barCell (prv c)) 0 true) ∗ bigSep Finset.univ fun k : OK => dutyTok ER ((payee k c : Thread nD τ), osem k) 0 false)

omit [FloatOps F] in
/-- Dealt around the ring, the one becomes the other. -/
theorem toks_around : (bigSep Finset.univ fun c : Dev nD => (toks c : sProp 𝕄)) ⊢ bigSep Finset.univ fun c : Dev nD => pays c := by
  have swap (Φ : Dev nD → OK → sProp 𝕄) : (bigSep Finset.univ fun c => bigSep Finset.univ fun k => Φ c k) = bigSep Finset.univ fun k => bigSep Finset.univ fun c => Φ c k := by
    rw [← bigSep_univ_prod (fun x : Dev nD × OK => Φ x.1 x.2), ← bigSep_univ_prod (fun x : OK × Dev nD => Φ x.2 x.1),
      bigSep_univ_equiv (Equiv.prodComm OK (Dev nD)) (fun x : Dev nD × OK => Φ x.1 x.2)]
    rfl
  unfold toks pays
  rw [bigSep_sep', bigSep_sep', bigSep_sep', bigSep_sep',
    bigSep_univ_equiv (along 0) (fun c : Dev nD => (dutyTok ER (barCell c) 0 false : sProp 𝕄)),
    bigSep_univ_equiv (along 2) (fun c : Dev nD => (dutyTok ER (barCell c) 0 true : sProp 𝕄)),
    swap (fun c k => dutyTok ER ((c : Thread nD τ), osem k) 0 false), swap (fun c k => dutyTok ER ((payee k c : Thread nD τ), osem k) 0 false),
    bigSep_congr fun (k : OK) _ => bigSep_univ_equiv (payee k) (fun c : Dev nD => (dutyTok ER ((c : Thread nD τ), osem k) 0 false : sProp 𝕄))]
  exact Entails.of_eq rfl

/-- What the launch deals device `c`. -/
def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ toks c)

/-- The ring's state at launch, dealt out by device. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_eq_bigSepL [false, true] (by decide) (by decide)]
      rfl
  iintro HX
  imod (Rounds.fund ER (ringRd m ρ) ringCells ringToks) $$ HX with ⟨Hst, Hr, Hat, Htok⟩
  imodintro
  ihave Hst := (Entails.of_eq (hX fun g => roundState ER (ringRd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores -/

omit [FloatOps F] in
/-- The barrier's is the one semaphore that is no device's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The barrier's cell and the own cells. -/
theorem ck_split (Φ : CK → sProp 𝕄) : bigSep Finset.univ Φ = iprop(Φ (.inl ()) ∗ bigSep Finset.univ fun k : OK => Φ (.inr k)) := by
  rw [bigSep_univ_sum, bigSep_univ_eq_bigSepL [()] (by decide) (by decide)]; rfl

omit [FloatOps F] in
/-- A device's semaphores at zero, as one family over its cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, ck_split]
  unfold Pipeline.ownSems0
  iintro ⟨HO, HB⟩
  isplitl [HB]; · iexact HB
  iexact HO

/-- A device's cells are put under their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's positions and the tokens of what it pays. -/
def linear (c : Dev nD) : sProp 𝕄 := iprop((bigSep Finset.univ fun k : CK => atPos ER (kcell (c, k)) 0 ∅ 0) ∗ pays c)
/-- What device `c` starts with: the records of all cells, and its own part. -/
def G' (c : Dev nD) : sProp 𝕄 := iprop(∃ K, records m ρ K ∗ linear c)

omit [FloatOps F] in
/-- A persistent fact may be used at each member of a family. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records of all cells are shared, and each device keeps its own part. -/
theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (ringRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m ρ) κ (kcell ck) : sProp 𝕄))) $$ HI
  icases HK with ⟨%K, #HI⟩
  ihave Htk := (toks_around (F := F)) $$ Htok
  iapply (bigSep_with (R := records m ρ K) (Φ := fun c => linear c) fun c _ => show (_ : sProp 𝕄) ⊢ G' m ρ c from by
    unfold G'; iintro H; iexists K; iexact H)
  isplitr
  · unfold records; isplitl; · iexact HI
    iexact HR
  · unfold linear
    rw [bigSep_sep']
    isplitl [Hat]; · iexact Hat
    iexact Htk

/-- The set-up of all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- What a device owes a cell at launch: its arrivals, and one unit to each neighbour at the barrier. -/
theorem O₀_apply (d : Dev nD) (g : GSem nD τ sig) :
    O₀ d g () = O d (fun _ => 0) g () + (if g = barCell (nxt d) then 1 else 0) + (if g = barCell (prv d) then 1 else 0) := by
  unfold O₀ O₁
  rw [Pi.add_apply, Finsupp.add_apply, Pi.add_apply, Finsupp.add_apply, tallyAt_apply, tallyAt_apply]
  simp only [and_true]

/-- What device `d` owes the barrier cell of device `c`. -/
theorem owed_bar (d c : Dev nD) : O₀ d (barCell c) () = (if d = prv c then 1 else 0) + (if d = nxt c then 1 else 0) := by
  have hO : O d (fun _ => 0) (barCell c) () = 0 := by
    by_contra h
    obtain ⟨s, k, -, e⟩ := O_pos (Nat.pos_of_ne_zero h)
    exact recv_ne_bar _ _ _ _ e.symm
  have e₁ : (barCell c = barCell (nxt d)) = (d = prv c) :=
    propext ⟨fun e => by rw [bar_inj e, prv_nxt], fun e => by rw [e, nxt_prv]⟩
  have e₂ : (barCell c = barCell (prv d)) = (d = nxt c) :=
    propext ⟨fun e => by rw [bar_inj e, nxt_prv], fun e => by rw [e, prv_nxt]⟩
  rw [O₀_apply, hO, Nat.zero_add]
  simp only [e₁, e₂]

/-- What device `d` owes a receive cell of device `c`: only the device that sends there owes. -/
theorem owed_recv (d c : Dev nD) (s : Fin 4) (h : Fin 7) : O₀ d (recvCell c s h) () = if d = src s c then N else 0 := by
  rw [O₀_apply, if_neg (recv_ne_bar _ _ _ _), if_neg (recv_ne_bar _ _ _ _)]
  unfold O
  rw [Finset.sum_apply, Finsupp.finset_sum_apply, Finset.sum_eq_single (s, h)]
  · rw [if_pos (Nat.zero_le _), tallyAt_apply]
    by_cases e : d = src s c
    · subst e; rw [if_pos ⟨by rw [nbr_src], rfl⟩, if_pos rfl]; rfl
    · rw [if_neg (fun e' => e (by rw [(recv_inj e'.1).1, src_nbr])), if_neg e]
  · intro p _ hp
    rw [if_pos (Nat.zero_le _), tallyAt_apply, if_neg]
    rintro ⟨e, -⟩
    exact hp (Prod.ext (recv_inj e).2.1.symm (recv_inj e).2.2.symm)
  · exact fun e => absurd (Finset.mem_univ _) e

/-- The credit at a barrier cell at launch is two units, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
/-- and at a receive cell a slot's. -/
theorem launch_recv (c : Dev nD) (s : Fin 4) (h : Fin 7) :
    tallyOn (recvCell c s h) (launchCredit (Pipeline.owing O₀) 0 (recvCell c s h)) = (tallyAt (recvCell c s h) () N : CellTallies nD τ sig Unit) := by
  unfold tallyAt; refine congrArg _ (Finsupp.ext fun u => ?_); cases u
  rw [Pipeline.launchCredit_owing, Finsupp.single_eq_same, Finset.sum_congr rfl fun d _ => owed_recv d c s h,
    Finset.sum_ite_eq' Finset.univ (src s c) fun _ => N, if_pos (Finset.mem_univ _)]

/-- The credit that a device starts with: two units at the barrier, a slot's at each arrival. -/
def creds (c : Dev nD) : sProp 𝕄 :=
  iprop(cred (tallyAt (barCell c) () 2) ∗ bigSep Finset.univ fun k : Fin 4 × Fin 7 => cred (tallyAt (recvCell c k.1 k.2) () N))

/-- The semaphores for which a device has credit at launch. -/
abbrev credSem : Unit ⊕ (Fin 4 × Fin 7) → SemLoc sig := Sum.elim (fun _ => .reg barS) fun k => .dma (recvS k.1 k.2)
theorem credSem_injective : Function.Injective credSem := by
  rintro (_ | k) (_ | k') h
  · rfl
  · exact absurd h.symm (osem_ne_bar (true, k'.1, k'.2))
  · exact absurd h (osem_ne_bar (true, k.1, k.2))
  · have e : (true, k.1, k.2) = ((true, k'.1, k'.2) : OK) := osem_injective h
    exact congrArg Sum.inr (congrArg Prod.snd e)

omit [FloatOps F] in
/-- The launch's credit is the credit that a device starts with. -/
theorem creds_intro (c : Dev nD) : (Pipeline.launchCred O₀ c : sProp 𝕄) ⊢ creds c := by
  let Φ (sm : SemLoc sig) : sProp 𝕄 := cred (tallyOn ((c : Thread nD τ), sm) (launchCredit (Pipeline.owing O₀) 0 ((c : Thread nD τ), sm)))
  have h₁ : (bigSep Finset.univ Φ : sProp 𝕄) ⊢ bigSep (Finset.univ.map ⟨credSem, credSem_injective⟩) Φ := bigSep_subset (Finset.subset_univ _)
  have h₂ : (bigSep (Finset.univ.map ⟨credSem, credSem_injective⟩) Φ : sProp 𝕄) = creds c := by
    rw [bigSep_map, bigSep_univ_sum, bigSep_univ_eq_bigSepL [()] (by decide) (by decide)]
    exact congrArg₂ (fun P Q : sProp 𝕄 => iprop(P ∗ Q)) (congrArg cred (launch_bar c)) (bigSep_congr fun k _ => congrArg cred (launch_recv c k.1 k.2))
  exact h₁.trans (Entails.of_eq h₂)

end Cert.KernelIdealRun

end
-- ==== Proof.KernelIdeal.Start.lean ====
/-
# From the launch to the body, and back

What the launch deals a device, sorted into what its body starts from; what the body ends with, sorted into what
the launch takes back.
-/
module

public import proofs.«01_k».proof.Proof.KernelIdeal.Ghost

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- The own cells: the send cells and the receive cells, by stream. -/
theorem own_split (Φ : OK → sProp 𝕄) : bigSep Finset.univ Φ
    = iprop((bigSep Finset.univ fun s : Fin 4 => bigSep Finset.univ fun h : Fin 7 => Φ (false, s, h))
      ∗ bigSep Finset.univ fun s : Fin 4 => bigSep Finset.univ fun h : Fin 7 => Φ (true, s, h)) := by
  rw [bigSep_univ_prod, bigSep_univ_eq_bigSepL [false, true] (by decide) (by decide)]
  show iprop((bigSep Finset.univ fun p : Fin 4 × Fin 7 => Φ (false, p)) ∗ bigSep Finset.univ fun p : Fin 4 × Fin 7 => Φ (true, p)) = _
  rw [bigSep_univ_prod, bigSep_univ_prod]

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The sends of all streams at launch, -/
theorem sends_intro (c : Dev nD) :
    iprop((bigSep Finset.univ fun s : Fin 4 => bigSep Finset.univ fun h : Fin 7 => atPos ER (sendCell c s h) 0 ∅ 0)
        ∗ (bigSep Finset.univ fun s : Fin 4 => bigSep Finset.univ fun h : Fin 7 => dutyTok ER (sendCell c s h) 0 false)
        ∗ (bigSep Finset.univ fun s : Fin 4 => bigSep Finset.univ fun h : Fin 7 => dutyTok ER (recvCell (nbr s c) s h) 0 false))
      ⊢ (bigSep Finset.univ fun s : Fin 4 => sends0 c s : sProp 𝕄) := by
  unfold sends0
  simp only [bigSep_sep']
  iintro H; iexact H

/-- the arrivals, -/
theorem recvs_intro (c : Dev nD) :
    iprop((bigSep Finset.univ fun s : Fin 4 => bigSep Finset.univ fun h : Fin 7 => atPos ER (recvCell c s h) 0 ∅ 0)
        ∗ (bigSep Finset.univ fun k : Fin 4 × Fin 7 => cred (tallyAt (recvCell c k.1 k.2) () N)))
      ⊢ (bigSep Finset.univ fun s : Fin 4 => bigSep Finset.univ fun h : Fin 7 => recvI c s 0 h : sProp 𝕄) := by
  have e (s : Fin 4) (h : Fin 7) : (recvI c s 0 h : sProp 𝕄) = iprop(atPos ER (recvCell c s h) 0 ∅ 0 ∗ cred (tallyAt (recvCell c s h) () N)) :=
    if_neg (Nat.not_lt_zero _)
  simp only [e, bigSep_sep']
  rw [bigSep_univ_prod]

/-- the slots. -/
theorem slots_intro (c : Dev nD) : (bigSep Finset.univ fun s : Fin 4 => bufA (F := F) c s)
    ⊢ iprop((bigSep Finset.univ fun s : Fin 4 => slotA (F := F) c s 0) ∗ bigSep Finset.univ fun s : Fin 4 => lent (F := F) c s) := by
  rw [← bigSep_sep']
  exact bigSep_mono fun s _ => buf_start c s

/-- All that a device's body starts from but its staged blocks and the copy of `w`. -/
theorem begin_intro (c : Dev nD) :
    iprop(linear (F := F) c ∗ creds c ∗ bigSep Finset.univ fun s : Fin 4 => bufA (F := F) c s)
      ⊢ iprop((Pre (F := F) c 0 ∗ Pre c 1 ∗ Pre c 2 ∗ Pre c 3) ∗ ((room (F := F) 0 (prv c) ∗ room 1 (prv c)) ∗ room 2 (nxt c) ∗ room 3 (nxt c))
        ∗ (dutyTok ER (barCell (prv c)) 0 true ∗ dutyTok ER (barCell (nxt c)) 0 false ∗ atPos ER (barCell c) 0 ∅ 0 ∗ cred (tallyAt (barCell c) () 2))) := by
  unfold linear creds pays
  rw [ck_split, own_split, own_split]
  iintro ⟨⟨⟨HB, HS, HV⟩, ⟨Ht, Ht'⟩, HtS, HtV⟩, ⟨Hc, HC⟩, Hbuf⟩
  ihave HL := (slots_intro (F := F) c) $$ Hbuf
  icases HL with ⟨HL, Hlent⟩
  ihave HS := (sends_intro (F := F) c) $$ [HS HtS HtV]
  · isplitl [HS]; · iexact HS
    isplitl [HtS]; · iexact HtS
    iexact HtV
  ihave HV := (recvs_intro (F := F) c) $$ [HV HC]
  · isplitl [HV]; · iexact HV
    iexact HC
  isplitl [HS HV HL]
  · iapply (show (bigSep Finset.univ fun s : Fin 4 => Pre (F := F) c s) ⊢ iprop(Pre (F := F) c 0 ∗ Pre c 1 ∗ Pre c 2 ∗ Pre c 3) from Entails.of_eq (four _))
    unfold Pre
    simp only [bigSep_sep']
    isplitl [HS]; · iexact HS
    isplitl [HV]; · iexact HV
    iexact HL
  isplitl [Hlent]
  · rw [← room_right 0 (by decide), ← room_right 1 (by decide), ← room_left 2 (by decide), ← room_left 3 (by decide)]
    ihave H := (Entails.of_eq (four fun s => lent (F := F) c s)) $$ Hlent
    icases H with ⟨H₀, H₁, H₂, H₃⟩
    isplitl [H₀ H₁]
    · isplitl [H₀] <;> iassumption
    isplitl [H₂] <;> iassumption
  isplitl [Ht']; · iexact Ht'
  isplitl [Ht]; · iexact Ht
  isplitl [HB]; · iexact HB
  iexact Hc

/-- At the end: the own semaphores at zero and the buffers whole. -/
theorem end_exit [∀ e, Nonempty (Elt F e)] (c : Dev nD) :
    iprop(Fin' (F := F) c 0 ∗ Fin' c 1 ∗ Fin' c 2 ∗ Fin' c 3)
      ⊢ iprop(Pipeline.ownSems0 (Ix := Unit) (Name := ℕ) (U := UU) (Lvl := ℕ) (Val := Elt F) (τ := τ) osem c ∗ bigSep Finset.univ fun s : Fin 4 => bufA (F := F) c s) := by
  unfold Pipeline.ownSems0
  rw [own_split]
  iintro H
  ihave H := (show iprop(Fin' (F := F) c 0 ∗ Fin' c 1 ∗ Fin' c 2 ∗ Fin' c 3) ⊢ bigSep Finset.univ fun s : Fin 4 => Fin' (F := F) c s from Entails.of_eq (four _).symm) $$ H
  unfold Fin'
  simp only [bigSep_sep']
  icases H with ⟨HS, HV, HL⟩
  isplitl [HS HV]
  · isplitl [HS]; · iexact HS
    iexact HV
  iapply (show (bigSep Finset.univ fun s : Fin 4 => bigSep Finset.univ fun j : Fin 8 => slotA (F := F) c s j) ⊢ bigSep Finset.univ fun s : Fin 4 => bufA (F := F) c s from
    bigSep_mono fun s _ => buf_join c s)
  iexact HL

end Cert.KernelIdealRun

end
-- ==== Proof.KernelIdeal.Launch.lean ====
/-
# The run of the whole program

The body's triple put into the staging pipeline, and the launch on all devices: every execution ends, the result
array of each device holds its result, the operands are unchanged, all semaphores are at zero.
-/
module

public import proofs.«01_k».proof.Proof.KernelIdeal.Start
public import proofs.«01_k».proof.Proof.Gen.KernelIdeal.Points
public import Idealize.ShloMosaic.Lib.Pipeline.CollectiveSegs
public import Idealize.ShloMosaic.Lib.Quiescent

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What a device brings to its body: the protocol's part, -/
def start (c : Dev nD) : sProp 𝕄 := iprop((∃ K, records m ρ K ∗ linear c) ∗ creds c ∗ levAts L lv)
/-- and the buffers; -/
def Φ₀ (c : Dev nD) : sProp 𝕄 :=
  iprop(start m ρ c ∗ (bigSep Finset.univ fun s : Fin 4 => bufA (F := F) c s) ∗ ∃ f, held c cc0_scratch12 f)
/-- what it takes away. -/
def Φ₁ (c : Dev nD) : sProp 𝕄 :=
  iprop((Fin' (F := F) c 0 ∗ Fin' c 1 ∗ Fin' c 2 ∗ Fin' c 3) ∗ semVal (barCell c) 0 ∗ held c cc0_scratch12 (wstg m ρ c))

/-- What the one call does with its windows: contents before and after, what is owed, and the state around the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- The only step of the call. -/
abbrev t₀ : Fin cfg0.N := t0_0

/-- Owning a whole buffer is holding its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ held c b f) := by
  unfold owns; simp only [Memref.view_whole, View.read_whole, View.set_whole]

/-! ## The body -/

/-- A staging buffer of device `c` that holds `X`. -/
abbrev stg (c : Dev nD) (b : Ref sig .tc) (X : b.ty.Contents (Elt F)) : sProp 𝕄 :=
  iprop(∃ f : Buf (Elt F) ((c : Thread nD τ).loc b), ⌜f = X⌝ ∗ held c b f)

/-- What the body finds, -/
def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d)) ∗ (∃ d, stg c cc0_stg1_0 ((dats m ρ 0 c).before (1 : Fin 5) t₀ d))
    ∗ (∃ d, stg c cc0_stg2_0 ((dats m ρ 0 c).before (2 : Fin 5) t₀ d)) ∗ (∃ d, stg c cc0_stg3_0 ((dats m ρ 0 c).before (3 : Fin 5) t₀ d))
    ∗ (∃ d, stg c cc0_stg4_0 ((dats m ρ 0 c).before (4 : Fin 5) t₀ d)))
/-- and what it leaves. -/
def bodyPost (c : Dev nD) : sProp 𝕄 :=
  iprop(Φ₁ m ρ c ∗ (dats m ρ 0 c).owesAt () t₀.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (outAt m ρ c))

/-- What the pipeline hands to the body is what the body starts from. -/
theorem pre_begin (c : Dev nD) : bodyPre m ρ c ⊢ iprop(∃ K, env m ρ K ∗ Begin m ρ c) := by
  unfold bodyPre Φ₀ start
  iintro ⟨⟨⟨⟨%K, #HR, Hlin⟩, Hcr, #Hlev⟩, Hbuf, Hs⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  have e0 : g0 = xstg m ρ c := by rw [hg0]; unfold Dat.before; rw [if_pos (fetch0_0 t₀)]; rfl
  have e1 : g1 = wstg m ρ c := by rw [hg1]; unfold Dat.before; rw [if_pos (fetch0_1 t₀)]; rfl
  have e2 : g2 = sxstg m ρ c := by rw [hg2]; unfold Dat.before; rw [if_pos (fetch0_2 t₀)]; rfl
  have e3 : g3 = swstg m ρ c := by rw [hg3]; unfold Dat.before; rw [if_pos (fetch0_3 t₀)]; rfl
  subst e0 e1 e2 e3
  unfold Dat.owesAt Pipeline.owesWithin
  icases Ho with ⟨%W, %hW, HO⟩
  ihave HB := (begin_intro (F := F) c) $$ [Hlin Hcr Hbuf]
  · isplitl [Hlin]; · iexact Hlin
    isplitl [Hcr]; · iexact Hcr
    iexact Hbuf
  icases HB with ⟨HP, HM, HT⟩
  iexists K
  isplitr
  · unfold env; isplitl; · iexact HR
    iexact Hlev
  unfold Begin
  isplitl [HP]; · iexact HP
  isplitl [HM]; · iexact HM
  isplitl [HT]; · iexact HT
  isplitl [HO]; · unfold owesE; iexists W; iexact HO
  isplitl [H0]; · iexact H0
  isplitl [H1]; · iexact H1
  isplitl [H2]; · iexact H2
  isplitl [H3]; · iexact H3
  isplitl [Hs]; · iexact Hs
  iexists g4; iexact H4

/-- What the body ends with is what the pipeline takes back. -/
theorem finish_post (c : Dev nD) : Finish m ρ c ⊢ bodyPost m ρ c := by
  unfold Finish bodyPost Φ₁ owesE Dat.owesAt Pipeline.owesWithin
  iintro ⟨HF, Hz, ⟨%W, HO⟩, H0, H1, H2, H3, Hs, H4⟩
  isplitl [HF Hz Hs]
  · isplitl [HF]; · iexact HF
    isplitl [Hz]; · iexact Hz
    iexact Hs
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  iexists _; isplitr; · (ipureintro; rfl)
  iexact H4

set_option maxRecDepth 65536 in
/-- The printed body, from what the pipeline hands it to what the pipeline takes back. -/
theorem body_runs (c : Dev nD) :
    bodyPre m ρ c ⊢ wp frame (wpE (defs₀ (F := F)) 𝒱₀ (c : Thread nD τ) none) Set.univ (bodyAt0 t₀) (fun _ => bodyPost m ρ c) := by
  show bodyPre m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7
      cc0_scratch8 cc0_scratch9 cc0_scratch10 cc0_scratch11 (Memref.whole cc0_scratch12) (Memref.isWhole_whole _)) (fun _ => bodyPost m ρ c)
  rw [body_eq, wp_deviceId]
  iintro H
  ihave H := (pre_begin m ρ c) $$ H
  icases H with ⟨%K, He, HB⟩
  iapply (wp_whole m ρ K c fun _ => bodyPost m ρ c)
  isplitl [He]; · iexact He
  isplitl [HB]; · iexact HB
  iintro H
  iapply (finish_post m ρ c); iexact H

set_option maxRecDepth 65536 in
/-- The pipeline's obligation for the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_runs m ρ c

/-! ## The launch -/

/-- The windows are held whole. -/
theorem share_eq (c : Dev nD) (w : Fin cfg0.W) : (dats m ρ 0 c).share w = fullShare := by unfold Dat.share; split <;> rfl

/-- What the launch deals out is what the call starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

/-- The call's scratch: the four streams' buffers and the copy of `w`. -/
theorem rest_eq (c : Dev nD) : (Pipeline.scopedRest cfg0.spec c : sProp 𝕄)
    = iprop(bufA (F := F) c 0 ∗ bufA (F := F) c 1 ∗ bufA (F := F) c 2 ∗ bufA (F := F) c 3 ∗ ∃ f, held c cc0_scratch12 f) := scopedRest0_eq c

/-- With the scratch it is the state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, rest_eq]
  unfold Φ₀
  rw [four]
  iintro ⟨Hs, -, H₀, H₁, H₂, H₃, H⟩
  isplitl [Hs]; · iexact Hs
  isplitr [H]
  · isplitl [H₀]; · iexact H₀
    isplitl [H₁]; · iexact H₁
    isplitl [H₂] <;> iassumption
  iexact H

/-- The state after the body gives back the semaphores at zero and the scratch. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, rest_eq, unscopedSems0_eq]
  unfold Φ₁
  iintro ⟨HF, Hz, Hs⟩
  ihave HF := (end_exit (F := F) c) $$ HF
  icases HF with ⟨HO, HB⟩
  ihave HB := (Entails.of_eq (four fun s => bufA (F := F) c s)) $$ HB
  icases HB with ⟨H₀, H₁, H₂, H₃⟩
  isplitl [Hz]; · iexact Hz
  isplitl [HO]; · iexact HO
  isplitl [H₀]; · iexact H₀
  isplitl [H₁]; · iexact H₁
  isplitl [H₂]; · iexact H₂
  isplitl [H₃]; · iexact H₃
  iexists (wstg m ρ c); iexact Hs

/-- The waits for the staging copies are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What an array of device `c` holds after the run. -/
def finalA (c : Dev nD) (w : Fin cfg0.W) : Buf (Elt F) ((cfg0.win w).arr.view.loc (c : Thread nD τ)) := (dats m ρ 0 c).arrAt w cfg0.N

set_option maxRecDepth 65536 in
/-- From any memory with all semaphores at zero, every fair execution on the eight devices ends, and then each array
    holds what `finalA` says and all semaphores are at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays are as before. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.KernelIdealRun

end
-- ==== Proof.KernelIdeal.Frame.lean ====
/-
# What the arrays hold after the run

Each operand is as it was; the result array of a device is the result of that device; all semaphores are at zero.
-/
module

public import proofs.«01_k».proof.Proof.KernelIdeal.Launch
public import Idealize.ShloMosaic.Lib.Pipeline.Value

@[expose] public section

noncomputable section

namespace Cert.KernelIdealRun

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The index of an element of the result window's block, which is the whole array, is its index in the array. -/
theorem out_idx (t : Fin cfg0.N) (i : S4096x1024.Idx) : (win0_4.blk t).view.emb i = i := by
  funext a
  apply Fin.ext
  exact Pipeline.Window.rect_emb_val_of_index_zero win0_4 t a rfl i

/-- After the run the result array of device `c` is the result that the schedule names. -/
theorem finalA_out (c : Dev nD) : finalA m ρ c 4 = outAt m ρ c := by
  refine (dats m ρ 0 c).arrAt_eq_of_cover 4 (outAt m ρ c) (fun t _ => ?_) (fun i => ?_)
  · funext i
    rw [View.read_apply]
    exact (congrArg (outAt m ρ c) (out_idx t i)).symm
  · exact ⟨t0_0, flush0_4 _, by
      have h := (win0_4.blk t0_0).view.emb_mem_set i
      rwa [out_idx] at h⟩

/-- From any memory with all semaphores at zero every execution ends; then the result array of each device is its
    result, the operands are unchanged and all semaphores are at zero. -/
theorem run_result : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c => ⟨(h.1 c 4).trans (finalA_out m ρ c), (h.1 c 0).trans (finalA_in m ρ c 0 rfl),
    (h.1 c 1).trans (finalA_in m ρ c 1 rfl), (h.1 c 2).trans (finalA_in m ρ c 2 rfl), (h.1 c 3).trans (finalA_in m ρ c 3 rfl)⟩, h.2⟩)
    (run_main m ρ)

end Cert.KernelIdealRun

end
-- ==== Proof.Value.Reference.lean ====
/-
# What the reference leaves in its result array
-/
module

public import proofs.«01_k».proof.Proof.Gen.ReferenceIdeal.Value
public import Idealize.ShloMosaic.Lib.Pipeline.ValueKit
public import Idealize.ShloMosaic.Lib.Pipeline.ReadBack

@[expose] public section

noncomputable section

namespace Cert.Equal

open Cert.ReferenceIdeal Cert.ReferenceIdeal.Gen
open Idealize.ShloMosaic Idealize.ShloMosaic.TcCoe

variable {F : FTy → Type} [FloatOps F]
variable (m : (ℓ : Loc nD τ sig) → Buf (Elt F) ℓ)

/-- The one index of an array of one element. -/
def one : S1.Idx := Shape.Idx.first (by decide)

/-- The product of the whole arrays times the two scales. -/
def refOut (x : FVec F S4096x4096 .fp8e4m3) (w : FVec F S4096x8192 .fp8e5m2) (sx sw : FVec F S1 .f32) : FVec F S4096x8192 .f32 :=
  k0_pay1 x w (sx one) (sw one)

/-! Each window is its whole array, so a block is the array. -/

/-- The block of `x` is the array, -/
theorem blk0 (c : Dev nD) (t : Fin cfg0.N) : iblk m c 0 t = m ((c : Thread nD τ).loc main_arg0) := by
  funext i
  refine (View.read_apply ..).trans ?_
  refine congrArg (m ((c : Thread nD τ).loc main_arg0)) (funext fun a => Fin.ext ?_)
  exact Pipeline.Window.rect_emb_val_of_index_zero win0_0 t a rfl i
/-- that of `w`, -/
theorem blk1 (c : Dev nD) (t : Fin cfg0.N) : iblk m c 1 t = m ((c : Thread nD τ).loc main_arg1) := by
  funext i
  refine (View.read_apply ..).trans ?_
  refine congrArg (m ((c : Thread nD τ).loc main_arg1)) (funext fun a => Fin.ext ?_)
  exact Pipeline.Window.rect_emb_val_of_index_zero win0_1 t a rfl i
/-- that of the scale of `x`, -/
theorem blk2 (c : Dev nD) (t : Fin cfg0.N) : iblk m c 2 t = m ((c : Thread nD τ).loc main_arg2) := by
  funext i
  refine (View.read_apply ..).trans ?_
  refine congrArg (m ((c : Thread nD τ).loc main_arg2)) (funext fun a => Fin.ext ?_)
  exact Pipeline.Window.rect_emb_val_of_index_zero win0_2 t a rfl i
/-- and that of the scale of `w`. -/
theorem blk3 (c : Dev nD) (t : Fin cfg0.N) : iblk m c 3 t = m ((c : Thread nD τ).loc main_arg3) := by
  funext i
  refine (View.read_apply ..).trans ?_
  refine congrArg (m ((c : Thread nD τ).loc main_arg3)) (funext fun a => Fin.ext ?_)
  exact Pipeline.Window.rect_emb_val_of_index_zero win0_3 t a rfl i

/-- The reference's result array after the run. -/
theorem ref_array (c : Dev nD) : (dats m 0 c).arrAt 4 cfg0.N
    = refOut (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have hy : ((View.whole main_v0).slice (win0_4.rect t)).emb y = y :=
    funext fun a => Fin.ext (Pipeline.Window.rect_emb_val_of_index_zero win0_4 t a rfl y)
  blk_simp
  rw [after0_4]
  unfold outsAt0
  frame_out
  simp only [read_unread_whole, blk0, blk1, blk2, blk3]
  rw [hy]
  rfl

end Cert.Equal

end
-- ==== Proof.Value.Read.lean ====
/-
# The products read at an index

Over the extended reals a product is, at a row and a column, the sum over the contracted index times the two scales:
of a device's block, and of the whole arrays.
-/
module

public import proofs.«01_k».proof.Proof.Value.Reference
public import proofs.«01_k».proof.Proof.KernelIdeal.Frame
public import Idealize.ShloMosaic.Lib.Pointwise

@[expose] public section

set_option maxRecDepth 16384

noncomputable section

namespace Cert.Equal

open Idealize.ShloMosaic Idealize.ShloMosaic.TcCoe

/-- Row `r`, column `l` of the product of the whole arrays, scaled. -/
theorem refOut_at (x : FVec Ideal ReferenceIdeal.S4096x4096 .fp8e4m3) (w : FVec Ideal ReferenceIdeal.S4096x8192 .fp8e5m2)
    (sx sw : FVec Ideal ReferenceIdeal.S1 .f32) (r : Fin 4096) (l : Fin 8192) :
    refOut x w sx sw (ix2 r l) = (∑ k : Fin 4096, x (ix2 r k) * w (ix2 k l)) * (sx one * sw one) := by
  unfold refOut
  generalize sx one = a
  generalize sw one = b
  pointwise [ReferenceIdeal.Gen.k0_pay1]

/-- Row `r`, column `l` of the product of a slot with a device's columns, scaled. -/
theorem pay_at (v : FVec Ideal KernelIdeal.S1x128x4096 .fp8e4m3) (w : FVec Ideal KernelIdeal.S4096x1024 .fp8e5m2) (a b : Elt Ideal .f32)
    (r : Fin 128) (l : Fin 1024) :
    KernelIdealRun.pay v w a b (ix2 r l) = (∑ k : Fin 4096, v (ix3 0 r k) * w (ix2 k l)) * (a * b) := by
  unfold KernelIdealRun.pay
  pointwise [KernelIdeal.Gen.k0_pay7]

/-- A slot's rows are the rows that were put there. -/
theorem put_at (v : FVec Ideal KernelIdeal.S128x4096 .fp8e4m3) (r : Fin 128) (k : Fin 4096) :
    KernelIdeal.Gen.k0_pay1 v (ix3 0 r k) = v (ix2 r k) := by
  pointwise [KernelIdeal.Gen.k0_pay1]

end Cert.Equal

end
-- ==== Proof.Value.Equal.lean ====
/-
# The equation

Each device's result is its block of columns of the reference's result.
-/
module

public import proofs.«01_k».proof.Proof.Value.Read
public import Idealize.ShloMosaic.Lib.Layout

@[expose] public section

set_option maxRecDepth 16384

noncomputable section

namespace Cert.Equal

open Cert.KernelIdeal Cert.KernelIdeal.Gen Cert.KernelIdealRun
open Idealize.ShloMosaic Idealize.ShloMosaic.TcCoe

variable (m : (ℓ : Loc nD τ sig) → Buf (Elt Ideal) ℓ) (ρ : Dev nD → PrngReg)

/-! ## The staged blocks are the arrays -/

/-- The staged rows of `x` are the array, -/
theorem xstg_eq (c : Dev nD) : xstg m ρ c = m ((c : Thread nD τ).loc main_arg0) := by
  funext i
  refine (View.read_apply ..).trans (congrArg (m ((c : Thread nD τ).loc main_arg0)) (funext fun a => Fin.ext ?_))
  exact Pipeline.Window.rect_emb_val_of_index_zero win0_0 (0 : Fin 1) a rfl i
/-- and the staged columns of `w`. -/
theorem wstg_eq (c : Dev nD) : wstg m ρ c = m ((c : Thread nD τ).loc main_arg1) := by
  funext i
  refine (View.read_apply ..).trans (congrArg (m ((c : Thread nD τ).loc main_arg1)) (funext fun a => Fin.ext ?_))
  exact Pipeline.Window.rect_emb_val_of_index_zero win0_1 (0 : Fin 1) a rfl i

/-- An array of one element has one index. -/
theorem eq_one (i : S1.Idx) : i = one := funext fun a => match a with | ⟨0, _⟩ => Subsingleton.elim (α := Fin 1) _ _

/-- The scale of `x` read is the one element of its array, -/
theorem sxv_eq (c : Dev nD) : sxv m ρ c = m ((c : Thread nD τ).loc main_arg2) one := by
  refine (View.read_apply ..).trans ((View.read_apply ..).trans ?_)
  exact congrArg (m ((c : Thread nD τ).loc main_arg2)) (eq_one _)
/-- and so is the scale of `w`. -/
theorem swv_eq (c : Dev nD) : swv m ρ c = m ((c : Thread nD τ).loc main_arg3) one := by
  refine (View.read_apply ..).trans ((View.read_apply ..).trans ?_)
  exact congrArg (m ((c : Thread nD τ).loc main_arg3)) (eq_one _)

/-- Row `r` of stream `s` of device `d` is row `128 s + r` of the device's block of `x`. -/
theorem rowsOf_at (s : Fin 4) (d : Dev nD) (r : Fin 128) (k : Fin 4096) :
    rowsOf m ρ s d (ix3 0 r k) = m ((d : Thread nD τ).loc main_arg0) (ix2 (n0 := 512) (n1 := 4096) ⟨128 * s.val + r.val, by omega⟩ k) := by
  unfold rowsOf
  rw [put_at, xstg_eq]
  refine (View.read_apply ..).trans (congrArg (m ((d : Thread nD τ).loc main_arg0)) (funext fun a => Fin.ext ?_))
  match a with
  | ⟨0, _⟩ => show 128 * s.val + 1 * r.val = 128 * s.val + r.val; omega
  | ⟨1, _⟩ => show 0 + 1 * k.val = k.val; omega

/-- The two spellings of an index by its coordinates. -/
theorem pair_eq {a b : ℕ} (r : Fin a) (l : Fin b) : (Shape.pair (d := ![a, b]) r l) = ix2 r l :=
  funext fun x => match x with | ⟨0, _⟩ => rfl | ⟨1, _⟩ => rfl

/-- Row `512 d + 128 s + r` of a device's result is row `r` of the product of the rows of stream `s` of device `d`. -/
theorem outAt_at (c : Dev nD) (R : Fin 4096) (l : Fin 1024) :
    outAt m ρ c (ix2 R l) = prodOf m ρ c ⟨R.val / 128 % 4, by omega⟩ ⟨R.val / 512, by show _ < 8; omega⟩ (ix2 ⟨R.val % 128, by omega⟩ l) :=
  congrArg (prodOf m ρ c _ _) (pair_eq _ _)

/-! ## The equation -/

variable (X : FVec Ideal ReferenceIdeal.S4096x4096 .fp8e4m3) (W : FVec Ideal ReferenceIdeal.S4096x8192 .fp8e5m2)
  (sx sw : FVec Ideal ReferenceIdeal.S1 .f32)

/-- Column `l` of block `c` of the columns is column `1024 c + l` of the whole. -/
theorem cols_at {α : Type} (v : ReferenceIdeal.S4096x8192.Idx → α) (c : Fin 8) (r : Fin 4096) (l : Fin 1024) :
    Layout.block ⟨2, ![4096, 1024]⟩ ⟨2, ![4096, 8192]⟩ 1 8 c v (by decide) (ix2 r l) = v (ix2 r ⟨c.val * 1024 + l.val, by omega⟩) :=
  congrArg v (funext fun x => match x with | ⟨0, _⟩ => rfl | ⟨1, _⟩ => rfl)
/-- Row `r` of block `d` of the rows is row `512 d + r` of the whole. -/
theorem rows_at {α : Type} (v : ReferenceIdeal.S4096x4096.Idx → α) (d : Fin 8) (r : Fin 512) (k : Fin 4096) :
    Layout.block ⟨2, ![512, 4096]⟩ ⟨2, ![4096, 4096]⟩ 0 8 d v (by decide) (ix2 r k) = v (ix2 ⟨d.val * 512 + r.val, by omega⟩ k) :=
  congrArg v (funext fun x => match x with | ⟨0, _⟩ => rfl | ⟨1, _⟩ => rfl)

/-- Where each device holds its block of rows of `X`, its block of columns of `W` and both scales, its result is its block
    of columns of the reference's. -/
theorem outAt_eq
    (hX : ∀ c : Dev nD, m ((c : Thread nD τ).loc main_arg0) = Layout.block ⟨2, ![512, 4096]⟩ ⟨2, ![4096, 4096]⟩ 0 8 c X)
    (hW : ∀ c : Dev nD, m ((c : Thread nD τ).loc main_arg1) = Layout.block ⟨2, ![4096, 1024]⟩ ⟨2, ![4096, 8192]⟩ 1 8 c W)
    (hsx : ∀ c : Dev nD, m ((c : Thread nD τ).loc main_arg2) = sx) (hsw : ∀ c : Dev nD, m ((c : Thread nD τ).loc main_arg3) = sw) (c : Dev nD) :
    outAt m ρ c = Layout.block ⟨2, ![4096, 1024]⟩ ⟨2, ![4096, 8192]⟩ 1 8 c (refOut X W sx sw) := by
  funext i
  obtain ⟨R, l, rfl⟩ : ∃ (R : Fin 4096) (l : Fin 1024), i = ix2 R l := ⟨i 0, i 1, eq_ix2 i⟩
  refine Eq.trans ?_ (cols_at (refOut X W sx sw) c R l).symm
  rw [refOut_at, outAt_at]
  unfold prodOf
  rw [pay_at, sxv_eq, swv_eq, wstg_eq, hsx, hsw, hW]
  refine congrArg (· * (sx one * sw one)) (Finset.sum_congr rfl fun k _ => ?_)
  rw [rowsOf_at, hX]
  refine congrArg₂ (· * ·) ((rows_at X _ _ k).trans (congrArg (fun r => X (ix2 r k)) (Fin.ext ?_))) (cols_at W c k l)
  show R.val / 512 * 512 + (128 * (R.val / 128 % 4) + R.val % 128) = R.val
  omega

end Cert.Equal

end
-- ==== Proof.lean ====
/- The claims put together: the frames of the kernel, of its idealization and of the reference, and the equation. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Frame
public import proofs.«01_k».proof.Proof.KernelIdeal.Frame
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- The run of `Kernel` leaves its arguments and all semaphores as they were. -/
theorem frame_kernel : Cert.quiescent_Kernel (hKernel := Cert.Kernel.Gen.facts) := fun m ρ _ =>
  (θ_run _ _ _).mono (fun _ h => ⟨fun c => (h.1 c).2, h.2⟩) (Cert.KernelRun.run_result m ρ)

/-- So does the run of `KernelIdeal`, -/
theorem frame_ideal : Cert.quiescent_KernelIdeal (hKernelIdeal := Cert.KernelIdeal.Gen.facts) := fun m ρ _ =>
  (θ_run _ _ _).mono (fun _ h => ⟨fun c => (h.1 c).2, h.2⟩) (Cert.KernelIdealRun.run_result m ρ)

/-- and that of `ReferenceIdeal`. -/
theorem frame_reference : Cert.quiescent_ReferenceIdeal (hReferenceIdeal := Cert.ReferenceIdeal.Gen.facts) :=
  fun m ρ _ => Cert.ReferenceIdeal.Gen.frame m ρ

/-- On blocks of the reference's arguments each device ends with its block of columns of the reference's result. -/
theorem equal : Cert.algebraic_KernelIdeal_ReferenceIdeal (hKernelIdeal := Cert.KernelIdeal.Gen.facts)
    (hReferenceIdeal := Cert.ReferenceIdeal.Gen.facts) := fun m ρ m' ρ' _ h =>
  ⟨_, (θ_run _ _ _).mono (fun _ hr c => ⟨((hr.1 c).1).trans (Cert.Equal.outAt_eq m ρ _ _ _ _ (fun c => (h c).1) (fun c => (h c).2.1)
        (fun c => (h c).2.2.1) (fun c => (h c).2.2.2) c), (hr.1 c).2⟩) (Cert.KernelIdealRun.run_result m ρ),
    (θ_run _ _ _).mono (fun _ hr => ⟨((hr 0).1).trans (Cert.Equal.ref_array m' 0), (hr 0).2⟩) (Cert.ReferenceIdeal.Value.run_blocks m' ρ')⟩

/-- All claims. -/
theorem claim : Cert.Claim := ⟨Cert.Kernel.Gen.facts, Cert.KernelIdeal.Gen.facts, Cert.ReferenceIdeal.Gen.facts,
  frame_kernel, frame_ideal, frame_reference, trivial, equal⟩

end Cert.Proof

end
